-- ==== Defs.lean ====
def Pre_KernelIdeal (m : (ℓ : Loc Cert.KernelIdeal.nD Cert.KernelIdeal.τ Cert.KernelIdeal.sig) → Buf (Elt Ideal) ℓ) : Prop :=
  True

def Pre_KernelIdeal_nonzero_projections [hPre_nonzero_projections : Cert.Pre_nonzero_projections.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_projections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_projections [hPre_nonzero_projections : Cert.Pre_nonzero_projections.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_projections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonzero_projections [hKernelIdeal : Cert.KernelIdeal.Facts] [hPre_nonzero_projections : Cert.Pre_nonzero_projections.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_projections m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonzero_projections [hReferenceIdeal : Cert.ReferenceIdeal.Facts] [hPre_nonzero_projections : Cert.Pre_nonzero_projections.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_projections m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_nonzero_projections [hKernelIdeal : Cert.KernelIdeal.Facts] [hReferenceIdeal : Cert.ReferenceIdeal.Facts] [hPre_nonzero_projections : Cert.Pre_nonzero_projections.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_projections m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_nonzero_projections : Cert.Pre_nonzero_projections.Facts),
    quiescent_KernelIdeal (hKernelIdeal := hKernelIdeal)
    ∧ quiescent_KernelIdeal_pre_nonzero_projections (hKernelIdeal := hKernelIdeal) (hPre_nonzero_projections := hPre_nonzero_projections)
    ∧ quiescent_ReferenceIdeal (hReferenceIdeal := hReferenceIdeal)
    ∧ quiescent_ReferenceIdeal_pre_nonzero_projections (hReferenceIdeal := hReferenceIdeal) (hPre_nonzero_projections := hPre_nonzero_projections)
    ∧ algebraic_KernelIdeal_ReferenceIdeal_pre_nonzero_projections (hKernelIdeal := hKernelIdeal) (hReferenceIdeal := hReferenceIdeal) (hPre_nonzero_projections := hPre_nonzero_projections)
-- ==== Pre_nonzero_projections.lean ====
abbrev S32x1024x384 : Shape := ⟨3, ![32, 1024, 384]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩
abbrev S32x1024 : Shape := ⟨2, ![32, 1024]⟩

class Facts : Prop where
  bcast_S384_S32x1024x384_2 : S384.BroadcastsInDim S32x1024x384 (![2] : Fin 1 → Fin S32x1024x384.rank)
  reducesTo_S32x1024x384_S32x1024_d2 : S32x1024x384.ReducesTo [2] S32x1024
  h_S_ : 0 < S_.numel
  bcast_S_S32x1024 : S_.BroadcastsInDim S32x1024 (![] : Fin 0 → Fin S32x1024.rank)
  dot_S32x1024x384_S384x384_S32x1024x384_2_1_01_0_n_n_wf : DotDims.WF S32x1024x384 S384x384 S32x1024x384 [2] [1] [0, 1] [0] [] []

variable [Facts]

def dot_S32x1024x384_S384x384_S32x1024x384_2_1_01_0_n_n : DotDims S32x1024x384 S384x384 S32x1024x384 where
  lhsContracting := [2]
  rhsContracting := [1]
  lhsNonContracting := [0, 1]
  rhsNonContracting := [0]
  lhsBatch := []
  rhsBatch := []
  wf := dot_S32x1024x384_S384x384_S32x1024x384_2_1_01_0_n_n_wf
def fn {F : FTy → Type} [FloatOps F] (main_arg0 : FVec F S32x1024x384 .f32) (main_arg1 : FVec F S384x384 .f32) (main_arg2 : FVec F S384 .f32) (main_arg3 : FVec F S256x384 .f32) (main_arg4 : FVec F S256 .f32) : IVec S32x1024 1 :=
  let main_v0 : FVec F S32x1024x384 .f32 := (fun l r => Host.dotGeneral dot_S32x1024x384_S384x384_S32x1024x384_2_1_01_0_n_n none l r) main_arg0 main_arg1
  let main_v1 : FVec F S32x1024x384 .f32 := broadcastInDim S32x1024x384 ![2] bcast_S384_S32x1024x384_2 main_arg2
  let main_v2 : FVec F S32x1024x384 .f32 := addf main_v0 main_v1
  let main_v3 : FVec F S32x1024x384 .f32 := mulf main_v2 main_v2
  let main_cst : FVec F S_ .f32 := constant S_ .f32 0x00000000#32
  let main_v4 : FVec F S32x1024 .f32 := (fun x v => Host.reduceAdd x v reducesTo_S32x1024x384_S32x1024_d2 h_S_) main_v3 main_cst
  let main_v5 : FVec F S32x1024 .f32 := Host.sqrt main_v4
  let main_cst_0 : FVec F S_ .f32 := constant S_ .f32 0x2B8CBCCC#32
  let main_v6 : FVec F S32x1024 .f32 := broadcastInDim S32x1024 ![] bcast_S_S32x1024 main_cst_0
  let main_v7 : IVec S32x1024 1 := cmpf .oge main_v5 main_v6
  let main_cst_1 : FVec F S_ .f32 := constant S_ .f32 0x7F800000#32
  let main_v8 : FVec F S32x1024 .f32 := broadcastInDim S32x1024 ![] bcast_S_S32x1024 main_cst_1
  let main_v9 : IVec S32x1024 1 := cmpf .olt main_v5 main_v8
  let main_v10 : IVec S32x1024 1 := andi main_v7 main_v9
  main_v10
-- ==== KernelIdeal.lean ====
abbrev S32x1024x384 : Shape := ⟨3, ![32, 1024, 384]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩
abbrev S1 : Shape := ⟨1, ![1]⟩
abbrev S2 : Shape := ⟨1, ![2]⟩
abbrev S1x1 : Shape := ⟨2, ![1, 1]⟩
abbrev S32x1024 : Shape := ⟨2, ![32, 1024]⟩
abbrev S32x1x1024 : Shape := ⟨3, ![32, 1, 1024]⟩
abbrev S1x384 : Shape := ⟨2, ![1, 384]⟩
abbrev S1x256 : Shape := ⟨2, ![1, 256]⟩
abbrev S32x16x256 : Shape := ⟨3, ![32, 16, 256]⟩
abbrev S4x1024x384 : Shape := ⟨3, ![4, 1024, 384]⟩
abbrev S4x1x1024 : Shape := ⟨3, ![4, 1, 1024]⟩
abbrev S4x16x256 : Shape := ⟨3, ![4, 16, 256]⟩
abbrev S1024x1024 : Shape := ⟨2, ![1024, 1024]⟩
abbrev S2x16x1024 : Shape := ⟨3, ![2, 16, 1024]⟩
abbrev S2x1024x384 : Shape := ⟨3, ![2, 1024, 384]⟩
abbrev S2048x384 : Shape := ⟨2, ![2048, 384]⟩
abbrev S2048 : Shape := ⟨1, ![2048]⟩
abbrev S2048x1 : Shape := ⟨2, ![2048, 1]⟩
abbrev S2048x1536 : Shape := ⟨2, ![2048, 1536]⟩
abbrev S1024x1536 : Shape := ⟨2, ![1024, 1536]⟩
abbrev S4x1024 : Shape := ⟨2, ![4, 1024]⟩
abbrev S4 : Shape := ⟨1, ![4]⟩
abbrev S4x1 : Shape := ⟨2, ![4, 1]⟩
abbrev S1x1024 : Shape := ⟨2, ![1, 1024]⟩
abbrev S1x1x1024 : Shape := ⟨3, ![1, 1, 1024]⟩
abbrev S1x16x1024 : Shape := ⟨3, ![1, 16, 1024]⟩
abbrev S16x1024 : Shape := ⟨2, ![16, 1024]⟩
abbrev S1024x384 : Shape := ⟨2, ![1024, 384]⟩
abbrev S16x384 : Shape := ⟨2, ![16, 384]⟩
abbrev S16 : Shape := ⟨1, ![16]⟩
abbrev S16x1 : Shape := ⟨2, ![16, 1]⟩
abbrev S16x256 : Shape := ⟨2, ![16, 256]⟩
abbrev S1x16x256 : Shape := ⟨3, ![1, 16, 256]⟩

abbrev nBuf : Space → Nat
  | .hbm => 287
  | .vmem => 16
  | .smem => 0
  | _ => 0

abbrev hbmTy0_0 (i : Nat) : BufTy := match i % 128 with
  | 0 => ⟨S32x1024x384, .f32⟩
  | 1 => ⟨S384x384, .f32⟩
  | 2 => ⟨S384, .f32⟩
  | 3 => ⟨S256x384, .f32⟩
  | 4 => ⟨S256, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S_, .f32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S32x1024, .i64⟩
  | 26 => ⟨S32x1024, .i64⟩
  | 27 => ⟨S_, .i64⟩
  | 28 => ⟨S32x1024, .i64⟩
  | 29 => ⟨S32x1024, .i64⟩
  | 30 => ⟨S_, .i64⟩
  | 31 => ⟨S32x1024, .i64⟩
  | 32 => ⟨S32x1024, .i64⟩
  | 33 => ⟨S32x1024, .i64⟩
  | 34 => ⟨S_, .i64⟩
  | 35 => ⟨S32x1024, .i64⟩
  | 36 => ⟨S32x1024, .i64⟩
  | 37 => ⟨S32x1024, .i32⟩
  | 38 => ⟨S32x1024, .i32⟩
  | 39 => ⟨S_, .i32⟩
  | 40 => ⟨S_, .i32⟩
  | 41 => ⟨S_, .i32⟩
  | 42 => ⟨S32x1024, .i32⟩
  | 43 => ⟨S32x1024, .i32⟩
  | 44 => ⟨S32x1024, .i32⟩
  | 45 => ⟨S32x1024, .i32⟩
  | 46 => ⟨S32x1024, .i32⟩
  | 47 => ⟨S_, .i32⟩
  | 48 => ⟨S32x1024, .i32⟩
  | 49 => ⟨S32x1024, .i32⟩
  | 50 => ⟨S_, .i32⟩
  | 51 => ⟨S32x1024, .i32⟩
  | 52 => ⟨S32x1024, .i32⟩
  | 53 => ⟨S32x1024, .i32⟩
  | 54 => ⟨S32x1024, .i32⟩
  | 55 => ⟨S32x1024, .i32⟩
  | 56 => ⟨S_, .i32⟩
  | 57 => ⟨S32x1024, .i32⟩
  | 58 => ⟨S32x1024, .i32⟩
  | 59 => ⟨S_, .i32⟩
  | 60 => ⟨S32x1024, .i32⟩
  | 61 => ⟨S32x1024, .i32⟩
  | 62 => ⟨S32x1024, .i32⟩
  | 63 => ⟨S32x1024, .i32⟩
  | 64 => ⟨S32x1024, .i32⟩
  | 65 => ⟨S_, .i32⟩
  | 66 => ⟨S32x1024, .i32⟩
  | 67 => ⟨S32x1024, .i32⟩
  | 68 => ⟨S_, .i32⟩
  | 69 => ⟨S32x1024, .i32⟩
  | 70 => ⟨S32x1024, .i32⟩
  | 71 => ⟨S32x1024, .i32⟩
  | 72 => ⟨S32x1024, .i32⟩
  | 73 => ⟨S32x1024, .i32⟩
  | 74 => ⟨S_, .i32⟩
  | 75 => ⟨S32x1024, .i32⟩
  | 76 => ⟨S32x1024, .i32⟩
  | 77 => ⟨S_, .i32⟩
  | 78 => ⟨S32x1024, .i32⟩
  | 79 => ⟨S32x1024, .i32⟩
  | 80 => ⟨S32x1024, .i32⟩
  | 81 => ⟨S32x1024, .i32⟩
  | 82 => ⟨S32x1024, .i32⟩
  | 83 => ⟨S32x1024, .i32⟩
  | 84 => ⟨S32x1024, .i32⟩
  | 85 => ⟨S32x1024, .i32⟩
  | 86 => ⟨S_, .i32⟩
  | 87 => ⟨S32x1024, .i32⟩
  | 88 => ⟨S32x1024, .i32⟩
  | 89 => ⟨S32x1024, .i32⟩
  | 90 => ⟨S_, .i32⟩
  | 91 => ⟨S32x1024, .i32⟩
  | 92 => ⟨S32x1024, .i32⟩
  | 93 => ⟨S_, .i32⟩
  | 94 => ⟨S32x1024, .i32⟩
  | 95 => ⟨S32x1024, .i32⟩
  | 96 => ⟨S32x1024, .i32⟩
  | 97 => ⟨S32x1024, .i32⟩
  | 98 => ⟨S32x1024, .i32⟩
  | 99 => ⟨S_, .i32⟩
  | 100 => ⟨S32x1024, .i32⟩
  | 101 => ⟨S32x1024, .i32⟩
  | 102 => ⟨S_, .i32⟩
  | 103 => ⟨S32x1024, .i32⟩
  | 104 => ⟨S32x1024, .i32⟩
  | 105 => ⟨S32x1024, .i32⟩
  | 106 => ⟨S32x1024, .i32⟩
  | 107 => ⟨S32x1024, .i32⟩
  | 108 => ⟨S_, .i32⟩
  | 109 => ⟨S32x1024, .i32⟩
  | 110 => ⟨S32x1024, .i32⟩
  | 111 => ⟨S_, .i32⟩
  | 112 => ⟨S32x1024, .i32⟩
  | 113 => ⟨S32x1024, .i32⟩
  | 114 => ⟨S32x1024, .i32⟩
  | 115 => ⟨S32x1024, .i32⟩
  | 116 => ⟨S32x1024, .i32⟩
  | 117 => ⟨S_, .i32⟩
  | 118 => ⟨S32x1024, .i32⟩
  | 119 => ⟨S32x1024, .i32⟩
  | 120 => ⟨S_, .i32⟩
  | 121 => ⟨S32x1024, .i32⟩
  | 122 => ⟨S32x1024, .i32⟩
  | 123 => ⟨S32x1024, .i32⟩
  | 124 => ⟨S32x1024, .i32⟩
  | 125 => ⟨S32x1024, .i32⟩
  | 126 => ⟨S32x1024, .i32⟩
  | 127 => ⟨S32x1024, .i32⟩
  | _ => ⟨S32x1024x384, .f32⟩

abbrev hbmTy0_1 (i : Nat) : BufTy := match i % 128 with
  | 0 => ⟨S32x1024, .i32⟩
  | 1 => ⟨S_, .i32⟩
  | 2 => ⟨S32x1024, .i32⟩
  | 3 => ⟨S32x1024, .i32⟩
  | 4 => ⟨S32x1024, .i32⟩
  | 5 => ⟨S_, .i32⟩
  | 6 => ⟨S32x1024, .i32⟩
  | 7 => ⟨S32x1024, .i32⟩
  | 8 => ⟨S_, .i32⟩
  | 9 => ⟨S32x1024, .i32⟩
  | 10 => ⟨S32x1024, .i32⟩
  | 11 => ⟨S32x1024, .i32⟩
  | 12 => ⟨S32x1024, .i32⟩
  | 13 => ⟨S32x1024, .i32⟩
  | 14 => ⟨S_, .i32⟩
  | 15 => ⟨S32x1024, .i32⟩
  | 16 => ⟨S32x1024, .i32⟩
  | 17 => ⟨S_, .i32⟩
  | 18 => ⟨S32x1024, .i32⟩
  | 19 => ⟨S32x1024, .i32⟩
  | 20 => ⟨S32x1024, .i32⟩
  | 21 => ⟨S32x1024, .i32⟩
  | 22 => ⟨S32x1024, .i32⟩
  | 23 => ⟨S_, .i32⟩
  | 24 => ⟨S32x1024, .i32⟩
  | 25 => ⟨S32x1024, .i32⟩
  | 26 => ⟨S_, .i32⟩
  | 27 => ⟨S32x1024, .i32⟩
  | 28 => ⟨S32x1024, .i32⟩
  | 29 => ⟨S32x1024, .i32⟩
  | 30 => ⟨S32x1024, .i32⟩
  | 31 => ⟨S32x1024, .i32⟩
  | 32 => ⟨S_, .i32⟩
  | 33 => ⟨S32x1024, .i32⟩
  | 34 => ⟨S32x1024, .i32⟩
  | 35 => ⟨S_, .i32⟩
  | 36 => ⟨S32x1024, .i32⟩
  | 37 => ⟨S32x1024, .i32⟩
  | 38 => ⟨S32x1024, .i32⟩
  | 39 => ⟨S32x1024, .i32⟩
  | 40 => ⟨S32x1024, .i32⟩
  | 41 => ⟨S32x1024, .i32⟩
  | 42 => ⟨S32x1024, .i32⟩
  | 43 => ⟨S32x1024, .i32⟩
  | 44 => ⟨S_, .i32⟩
  | 45 => ⟨S32x1024, .i32⟩
  | 46 => ⟨S32x1024, .i32⟩
  | 47 => ⟨S32x1024, .i32⟩
  | 48 => ⟨S_, .i32⟩
  | 49 => ⟨S32x1024, .i32⟩
  | 50 => ⟨S32x1024, .i32⟩
  | 51 => ⟨S_, .i32⟩
  | 52 => ⟨S32x1024, .i32⟩
  | 53 => ⟨S32x1024, .i32⟩
  | 54 => ⟨S32x1024, .i32⟩
  | 55 => ⟨S32x1024, .i32⟩
  | 56 => ⟨S32x1024, .i32⟩
  | 57 => ⟨S_, .i32⟩
  | 58 => ⟨S32x1024, .i32⟩
  | 59 => ⟨S32x1024, .i32⟩
  | 60 => ⟨S_, .i32⟩
  | 61 => ⟨S32x1024, .i32⟩
  | 62 => ⟨S32x1024, .i32⟩
  | 63 => ⟨S32x1024, .i32⟩
  | 64 => ⟨S32x1024, .i32⟩
  | 65 => ⟨S32x1024, .i32⟩
  | 66 => ⟨S_, .i32⟩
  | 67 => ⟨S32x1024, .i32⟩
  | 68 => ⟨S32x1024, .i32⟩
  | 69 => ⟨S_, .i32⟩
  | 70 => ⟨S32x1024, .i32⟩
  | 71 => ⟨S32x1024, .i32⟩
  | 72 => ⟨S32x1024, .i32⟩
  | 73 => ⟨S32x1024, .i32⟩
  | 74 => ⟨S32x1024, .i32⟩
  | 75 => ⟨S_, .i32⟩
  | 76 => ⟨S32x1024, .i32⟩
  | 77 => ⟨S32x1024, .i32⟩
  | 78 => ⟨S_, .i32⟩
  | 79 => ⟨S32x1024, .i32⟩
  | 80 => ⟨S32x1024, .i32⟩
  | 81 => ⟨S32x1024, .i32⟩
  | 82 => ⟨S32x1024, .i32⟩
  | 83 => ⟨S32x1024, .i32⟩
  | 84 => ⟨S32x1024, .i32⟩
  | 85 => ⟨S32x1024, .i32⟩
  | 86 => ⟨S32x1024, .i32⟩
  | 87 => ⟨S_, .i32⟩
  | 88 => ⟨S32x1024, .i32⟩
  | 89 => ⟨S32x1024, .i32⟩
  | 90 => ⟨S32x1024, .i32⟩
  | 91 => ⟨S_, .i32⟩
  | 92 => ⟨S32x1024, .i32⟩
  | 93 => ⟨S32x1024, .i32⟩
  | 94 => ⟨S_, .i32⟩
  | 95 => ⟨S32x1024, .i32⟩
  | 96 => ⟨S32x1024, .i32⟩
  | 97 => ⟨S32x1024, .i32⟩
  | 98 => ⟨S32x1024, .i32⟩
  | 99 => ⟨S32x1024, .i32⟩
  | 100 => ⟨S_, .i32⟩
  | 101 => ⟨S32x1024, .i32⟩
  | 102 => ⟨S32x1024, .i32⟩
  | 103 => ⟨S_, .i32⟩
  | 104 => ⟨S32x1024, .i32⟩
  | 105 => ⟨S32x1024, .i32⟩
  | 106 => ⟨S32x1024, .i32⟩
  | 107 => ⟨S32x1024, .i32⟩
  | 108 => ⟨S32x1024, .i32⟩
  | 109 => ⟨S_, .i32⟩
  | 110 => ⟨S32x1024, .i32⟩
  | 111 => ⟨S32x1024, .i32⟩
  | 112 => ⟨S_, .i32⟩
  | 113 => ⟨S32x1024, .i32⟩
  | 114 => ⟨S32x1024, .i32⟩
  | 115 => ⟨S32x1024, .i32⟩
  | 116 => ⟨S32x1024, .i32⟩
  | 117 => ⟨S32x1024, .i32⟩
  | 118 => ⟨S_, .i32⟩
  | 119 => ⟨S32x1024, .i32⟩
  | 120 => ⟨S32x1024, .i32⟩
  | 121 => ⟨S_, .i32⟩
  | 122 => ⟨S32x1024, .i32⟩
  | 123 => ⟨S32x1024, .i32⟩
  | 124 => ⟨S32x1024, .i32⟩
  | 125 => ⟨S32x1024, .i32⟩
  | 126 => ⟨S32x1024, .i32⟩
  | 127 => ⟨S32x1024, .i32⟩
  | _ => ⟨S32x1024x384, .f32⟩

abbrev hbmTy0_2 (i : Nat) : BufTy := match i % 128 with
  | 0 => ⟨S32x1024, .i32⟩
  | 1 => ⟨S32x1024, .i32⟩
  | 2 => ⟨S_, .i32⟩
  | 3 => ⟨S32x1024, .i32⟩
  | 4 => ⟨S32x1024, .i32⟩
  | 5 => ⟨S32x1024, .i32⟩
  | 6 => ⟨S_, .i32⟩
  | 7 => ⟨S32x1024, .i32⟩
  | 8 => ⟨S32x1024, .i32⟩
  | 9 => ⟨S_, .i32⟩
  | 10 => ⟨S32x1024, .i32⟩
  | 11 => ⟨S32x1024, .i32⟩
  | 12 => ⟨S32x1024, .f32⟩
  | 13 => ⟨S_, .f32⟩
  | 14 => ⟨S32x1024, .f32⟩
  | 15 => ⟨S32x1024, .f32⟩
  | 16 => ⟨S1x1, .f32⟩
  | 17 => ⟨S32x1024, .f32⟩
  | 18 => ⟨S32x1024, .f32⟩
  | 19 => ⟨S32x1024, .f32⟩
  | 20 => ⟨S32x1024, .f32⟩
  | 21 => ⟨S32x1024, .f32⟩
  | 22 => ⟨S32x1024, .f32⟩
  | 23 => ⟨S_, .f32⟩
  | 24 => ⟨S_, .f32⟩
  | 25 => ⟨S32x1024, .f32⟩
  | 26 => ⟨S32x1024, .f32⟩
  | 27 => ⟨S32x1x1024, .f32⟩
  | 28 => ⟨S1x384, .f32⟩
  | 29 => ⟨S1x256, .f32⟩
  | 30 => ⟨S32x16x256, .f32⟩
  | _ => ⟨S32x1024x384, .f32⟩

abbrev hbmTy (i : Nat) : BufTy := match i / 128 with
  | 0 => hbmTy0_0 i
  | 1 => hbmTy0_1 i
  | 2 => hbmTy0_2 i
  | _ => ⟨S32x1024x384, .f32⟩

abbrev bufTy : (tb : Table) → Fin (tcTables nBuf tb) → BufTy
  | .hbm, ⟨i, _⟩ => hbmTy i
  | .local _ .vmem, ⟨0, _⟩ => ⟨S4x1024x384, .f32⟩
  | .local _ .vmem, ⟨1, _⟩ => ⟨S4x1024x384, .f32⟩
  | .local _ .vmem, ⟨2, _⟩ => ⟨S384x384, .f32⟩
  | .local _ .vmem, ⟨3, _⟩ => ⟨S1x384, .f32⟩
  | .local _ .vmem, ⟨4, _⟩ => ⟨S256x384, .f32⟩
  | .local _ .vmem, ⟨5, _⟩ => ⟨S1x256, .f32⟩
  | .local _ .vmem, ⟨6, _⟩ => ⟨S4x1x1024, .f32⟩
  | .local _ .vmem, ⟨7, _⟩ => ⟨S4x1x1024, .f32⟩
  | .local _ .vmem, ⟨8, _⟩ => ⟨S4x16x256, .f32⟩
  | .local _ .vmem, ⟨9, _⟩ => ⟨S4x16x256, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S2x16x1024, .f32⟩
  | .local _ .vmem, ⟨15, _⟩ => ⟨S2x16x1024, .f32⟩
  | _, _ => ⟨S32x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_c : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_c_1 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v19_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v19_1 : Ref sig .tc := ⟨.hbm, 260, rfl⟩
abbrev main_call0_v20 : Ref sig .tc := ⟨.hbm, 261, rfl⟩
abbrev main_call0_c_2 : Ref sig .tc := ⟨.hbm, 262, rfl⟩
abbrev main_call0_v21 : Ref sig .tc := ⟨.hbm, 263, rfl⟩
abbrev main_call0_v22 : Ref sig .tc := ⟨.hbm, 264, rfl⟩
abbrev main_call0_c_3 : Ref sig .tc := ⟨.hbm, 265, rfl⟩
abbrev main_call0_v23 : Ref sig .tc := ⟨.hbm, 266, rfl⟩
abbrev main_call0_v24 : Ref sig .tc := ⟨.hbm, 267, rfl⟩
abbrev main_call0_v25 : Ref sig .tc := ⟨.hbm, 268, rfl⟩
abbrev main_call0_cst : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_call0_v30 : Ref sig .tc := ⟨.hbm, 274, rfl⟩
abbrev main_call0_v31 : Ref sig .tc := ⟨.hbm, 275, rfl⟩
abbrev main_call0_v32 : Ref sig .tc := ⟨.hbm, 276, rfl⟩
abbrev main_call0_v33 : Ref sig .tc := ⟨.hbm, 277, rfl⟩
abbrev main_v7 : Ref sig .tc := ⟨.hbm, 278, rfl⟩
abbrev main_cst_3 : Ref sig .tc := ⟨.hbm, 279, rfl⟩
abbrev main_call1_v0 : Ref sig .tc := ⟨.hbm, 280, rfl⟩
abbrev main_call1_v1 : Ref sig .tc := ⟨.hbm, 281, rfl⟩
abbrev main_v8 : Ref sig .tc := ⟨.hbm, 282, rfl⟩
abbrev main_v9 : Ref sig .tc := ⟨.hbm, 283, rfl⟩
abbrev main_v10 : Ref sig .tc := ⟨.hbm, 284, rfl⟩
abbrev main_v11 : Ref sig .tc := ⟨.hbm, 285, rfl⟩
abbrev main_v12 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def k0_off1 (v86 : BitVec 32) : Fin 2 → Nat :=
  let v87 : Index := Scalar.indexCast v86
  let c0_34 : Index := 0#32
  ![v87.toNat, 0]

def k0_chk1 (v86 : BitVec 32) : Prop :=
  (∀ a, (k0_off1 v86) a + S1x1024.size a ≤ S1024x1024.size a)
theorem k0_off1_inb : ∀ (v86 : BitVec 32) (k0_hw1 : k0_chk1 v86), ∀ a, (k0_off1 v86) a + S1x1024.size a ≤ S1024x1024.size a := fun v86 k0_hw1 => k0_hw1

def k0_off2 (v90 : BitVec 32) : Fin 2 → Nat :=
  let v91 : Index := Scalar.indexCast v90
  let c0_35 : Index := 0#32
  ![v91.toNat, 0]

def k0_chk2 (v90 : BitVec 32) : Prop :=
  (∀ a, (k0_off2 v90) a + S1x1024.size a ≤ S1024x1024.size a)
theorem k0_off2_inb : ∀ (v90 : BitVec 32) (k0_hw2 : k0_chk2 v90), ∀ a, (k0_off2 v90) a + S1x1024.size a ≤ S1024x1024.size a := fun v90 k0_hw2 => k0_hw2

def k0_off3 (v94 : BitVec 32) : Fin 2 → Nat :=
  let v95 : Index := Scalar.indexCast v94
  let c0_36 : Index := 0#32
  ![v95.toNat, 0]

def k0_chk3 (v94 : BitVec 32) : Prop :=
  (∀ a, (k0_off3 v94) a + S1x1024.size a ≤ S1024x1024.size a)
theorem k0_off3_inb : ∀ (v94 : BitVec 32) (k0_hw3 : k0_chk3 v94), ∀ a, (k0_off3 v94) a + S1x1024.size a ≤ S1024x1024.size a := fun v94 k0_hw3 => k0_hw3

def k0_off4 (v98 : BitVec 32) : Fin 2 → Nat :=
  let v99 : Index := Scalar.indexCast v98
  let c0_37 : Index := 0#32
  ![v99.toNat, 0]

def k0_chk4 (v98 : BitVec 32) : Prop :=
  (∀ a, (k0_off4 v98) a + S1x1024.size a ≤ S1024x1024.size a)
theorem k0_off4_inb : ∀ (v98 : BitVec 32) (k0_hw4 : k0_chk4 v98), ∀ a, (k0_off4 v98) a + S1x1024.size a ≤ S1024x1024.size a := fun v98 k0_hw4 => k0_hw4

def k0_off5 (v142 : BitVec 32) : Fin 2 → Nat :=
  let v143 : Index := Scalar.indexCast v142
  let c0_58 : Index := 0#32
  ![v143.toNat, 0]

def k0_chk5 (v142 : BitVec 32) : Prop :=
  (∀ a, (k0_off5 v142) a + S1x1024.size a ≤ S1024x1024.size a)
theorem k0_off5_inb : ∀ (v142 : BitVec 32) (k0_hw5 : k0_chk5 v142), ∀ a, (k0_off5 v142) a + S1x1024.size a ≤ S1024x1024.size a := fun v142 k0_hw5 => k0_hw5

def k0_off6 (v146 : BitVec 32) : Fin 2 → Nat :=
  let v147 : Index := Scalar.indexCast v146
  let c0_59 : Index := 0#32
  ![v147.toNat, 0]

def k0_chk6 (v146 : BitVec 32) : Prop :=
  (∀ a, (k0_off6 v146) a + S1x1024.size a ≤ S1024x1024.size a)
theorem k0_off6_inb : ∀ (v146 : BitVec 32) (k0_hw6 : k0_chk6 v146), ∀ a, (k0_off6 v146) a + S1x1024.size a ≤ S1024x1024.size a := fun v146 k0_hw6 => k0_hw6

def k0_off7 (v150 : BitVec 32) : Fin 2 → Nat :=
  let v151 : Index := Scalar.indexCast v150
  let c0_60 : Index := 0#32
  ![v151.toNat, 0]

def k0_chk7 (v150 : BitVec 32) : Prop :=
  (∀ a, (k0_off7 v150) a + S1x1024.size a ≤ S1024x1024.size a)
theorem k0_off7_inb : ∀ (v150 : BitVec 32) (k0_hw7 : k0_chk7 v150), ∀ a, (k0_off7 v150) a + S1x1024.size a ≤ S1024x1024.size a := fun v150 k0_hw7 => k0_hw7

def k0_off8 (v154 : BitVec 32) : Fin 2 → Nat :=
  let v155 : Index := Scalar.indexCast v154
  let c0_61 : Index := 0#32
  ![v155.toNat, 0]

def k0_chk8 (v154 : BitVec 32) : Prop :=
  (∀ a, (k0_off8 v154) a + S1x1024.size a ≤ S1024x1024.size a)
theorem k0_off8_inb : ∀ (v154 : BitVec 32) (k0_hw8 : k0_chk8 v154), ∀ a, (k0_off8 v154) a + S1x1024.size a ≤ S1024x1024.size a := fun v154 k0_hw8 => k0_hw8

def k0_off9 (v198 : BitVec 32) : Fin 2 → Nat :=
  let v199 : Index := Scalar.indexCast v198
  let c0_83 : Index := 0#32
  ![v199.toNat, 0]

def k0_chk9 (v198 : BitVec 32) : Prop :=
  (∀ a, (k0_off9 v198) a + S1x1024.size a ≤ S1024x1024.size a)
theorem k0_off9_inb : ∀ (v198 : BitVec 32) (k0_hw9 : k0_chk9 v198), ∀ a, (k0_off9 v198) a + S1x1024.size a ≤ S1024x1024.size a := fun v198 k0_hw9 => k0_hw9

def k0_off10 (v202 : BitVec 32) : Fin 2 → Nat :=
  let v203 : Index := Scalar.indexCast v202
  let c0_84 : Index := 0#32
  ![v203.toNat, 0]

def k0_chk10 (v202 : BitVec 32) : Prop :=
  (∀ a, (k0_off10 v202) a + S1x1024.size a ≤ S1024x1024.size a)
theorem k0_off10_inb : ∀ (v202 : BitVec 32) (k0_hw10 : k0_chk10 v202), ∀ a, (k0_off10 v202) a + S1x1024.size a ≤ S1024x1024.size a := fun v202 k0_hw10 => k0_hw10

def k0_off11 (v206 : BitVec 32) : Fin 2 → Nat :=
  let v207 : Index := Scalar.indexCast v206
  let c0_85 : Index := 0#32
  ![v207.toNat, 0]

def k0_chk11 (v206 : BitVec 32) : Prop :=
  (∀ a, (k0_off11 v206) a + S1x1024.size a ≤ S1024x1024.size a)
theorem k0_off11_inb : ∀ (v206 : BitVec 32) (k0_hw11 : k0_chk11 v206), ∀ a, (k0_off11 v206) a + S1x1024.size a ≤ S1024x1024.size a := fun v206 k0_hw11 => k0_hw11

def k0_off12 (v210 : BitVec 32) : Fin 2 → Nat :=
  let v211 : Index := Scalar.indexCast v210
  let c0_86 : Index := 0#32
  ![v211.toNat, 0]

def k0_chk12 (v210 : BitVec 32) : Prop :=
  (∀ a, (k0_off12 v210) a + S1x1024.size a ≤ S1024x1024.size a)
theorem k0_off12_inb : ∀ (v210 : BitVec 32) (k0_hw12 : k0_chk12 v210), ∀ a, (k0_off12 v210) a + S1x1024.size a ≤ S1024x1024.size a := fun v210 k0_hw12 => k0_hw12

def k0_off13 (v254 : BitVec 32) : Fin 2 → Nat :=
  let v255 : Index := Scalar.indexCast v254
  let c0_107 : Index := 0#32
  ![v255.toNat, 0]

def k0_chk13 (v254 : BitVec 32) : Prop :=
  (∀ a, (k0_off13 v254) a + S1x1024.size a ≤ S1024x1024.size a)
theorem k0_off13_inb : ∀ (v254 : BitVec 32) (k0_hw13 : k0_chk13 v254), ∀ a, (k0_off13 v254) a + S1x1024.size a ≤ S1024x1024.size a := fun v254 k0_hw13 => k0_hw13

def k0_off14 (v258 : BitVec 32) : Fin 2 → Nat :=
  let v259 : Index := Scalar.indexCast v258
  let c0_108 : Index := 0#32
  ![v259.toNat, 0]

def k0_chk14 (v258 : BitVec 32) : Prop :=
  (∀ a, (k0_off14 v258) a + S1x1024.size a ≤ S1024x1024.size a)
theorem k0_off14_inb : ∀ (v258 : BitVec 32) (k0_hw14 : k0_chk14 v258), ∀ a, (k0_off14 v258) a + S1x1024.size a ≤ S1024x1024.size a := fun v258 k0_hw14 => k0_hw14

def k0_off15 (v262 : BitVec 32) : Fin 2 → Nat :=
  let v263 : Index := Scalar.indexCast v262
  let c0_109 : Index := 0#32
  ![v263.toNat, 0]

def k0_chk15 (v262 : BitVec 32) : Prop :=
  (∀ a, (k0_off15 v262) a + S1x1024.size a ≤ S1024x1024.size a)
theorem k0_off15_inb : ∀ (v262 : BitVec 32) (k0_hw15 : k0_chk15 v262), ∀ a, (k0_off15 v262) a + S1x1024.size a ≤ S1024x1024.size a := fun v262 k0_hw15 => k0_hw15

def k0_off16 (v266 : BitVec 32) : Fin 2 → Nat :=
  let v267 : Index := Scalar.indexCast v266
  let c0_110 : Index := 0#32
  ![v267.toNat, 0]

def k0_chk16 (v266 : BitVec 32) : Prop :=
  (∀ a, (k0_off16 v266) a + S1x1024.size a ≤ S1024x1024.size a)
theorem k0_off16_inb : ∀ (v266 : BitVec 32) (k0_hw16 : k0_chk16 v266), ∀ a, (k0_off16 v266) a + S1x1024.size a ≤ S1024x1024.size a := fun v266 k0_hw16 => k0_hw16

def k0_off17 (v310 : BitVec 32) : Fin 2 → Nat :=
  let v311 : Index := Scalar.indexCast v310
  let c0_131 : Index := 0#32
  ![v311.toNat, 0]

def k0_chk17 (v310 : BitVec 32) : Prop :=
  (∀ a, (k0_off17 v310) a + S1x1024.size a ≤ S1024x1024.size a)
theorem k0_off17_inb : ∀ (v310 : BitVec 32) (k0_hw17 : k0_chk17 v310), ∀ a, (k0_off17 v310) a + S1x1024.size a ≤ S1024x1024.size a := fun v310 k0_hw17 => k0_hw17

def k0_off18 (v314 : BitVec 32) : Fin 2 → Nat :=
  let v315 : Index := Scalar.indexCast v314
  let c0_132 : Index := 0#32
  ![v315.toNat, 0]

def k0_chk18 (v314 : BitVec 32) : Prop :=
  (∀ a, (k0_off18 v314) a + S1x1024.size a ≤ S1024x1024.size a)
theorem k0_off18_inb : ∀ (v314 : BitVec 32) (k0_hw18 : k0_chk18 v314), ∀ a, (k0_off18 v314) a + S1x1024.size a ≤ S1024x1024.size a := fun v314 k0_hw18 => k0_hw18

def k0_off19 (v318 : BitVec 32) : Fin 2 → Nat :=
  let v319 : Index := Scalar.indexCast v318
  let c0_133 : Index := 0#32
  ![v319.toNat, 0]

def k0_chk19 (v318 : BitVec 32) : Prop :=
  (∀ a, (k0_off19 v318) a + S1x1024.size a ≤ S1024x1024.size a)
theorem k0_off19_inb : ∀ (v318 : BitVec 32) (k0_hw19 : k0_chk19 v318), ∀ a, (k0_off19 v318) a + S1x1024.size a ≤ S1024x1024.size a := fun v318 k0_hw19 => k0_hw19

def k0_off20 (v322 : BitVec 32) : Fin 2 → Nat :=
  let v323 : Index := Scalar.indexCast v322
  let c0_134 : Index := 0#32
  ![v323.toNat, 0]

def k0_chk20 (v322 : BitVec 32) : Prop :=
  (∀ a, (k0_off20 v322) a + S1x1024.size a ≤ S1024x1024.size a)
theorem k0_off20_inb : ∀ (v322 : BitVec 32) (k0_hw20 : k0_chk20 v322), ∀ a, (k0_off20 v322) a + S1x1024.size a ≤ S1024x1024.size a := fun v322 k0_hw20 => k0_hw20

def k0_off21 (v366 : BitVec 32) : Fin 2 → Nat :=
  let v367 : Index := Scalar.indexCast v366
  let c0_155 : Index := 0#32
  ![v367.toNat, 0]

def k0_chk21 (v366 : BitVec 32) : Prop :=
  (∀ a, (k0_off21 v366) a + S1x1024.size a ≤ S1024x1024.size a)
theorem k0_off21_inb : ∀ (v366 : BitVec 32) (k0_hw21 : k0_chk21 v366), ∀ a, (k0_off21 v366) a + S1x1024.size a ≤ S1024x1024.size a := fun v366 k0_hw21 => k0_hw21

def k0_off22 (v370 : BitVec 32) : Fin 2 → Nat :=
  let v371 : Index := Scalar.indexCast v370
  let c0_156 : Index := 0#32
  ![v371.toNat, 0]

def k0_chk22 (v370 : BitVec 32) : Prop :=
  (∀ a, (k0_off22 v370) a + S1x1024.size a ≤ S1024x1024.size a)
theorem k0_off22_inb : ∀ (v370 : BitVec 32) (k0_hw22 : k0_chk22 v370), ∀ a, (k0_off22 v370) a + S1x1024.size a ≤ S1024x1024.size a := fun v370 k0_hw22 => k0_hw22

def k0_off23 (v374 : BitVec 32) : Fin 2 → Nat :=
  let v375 : Index := Scalar.indexCast v374
  let c0_157 : Index := 0#32
  ![v375.toNat, 0]

def k0_chk23 (v374 : BitVec 32) : Prop :=
  (∀ a, (k0_off23 v374) a + S1x1024.size a ≤ S1024x1024.size a)
theorem k0_off23_inb : ∀ (v374 : BitVec 32) (k0_hw23 : k0_chk23 v374), ∀ a, (k0_off23 v374) a + S1x1024.size a ≤ S1024x1024.size a := fun v374 k0_hw23 => k0_hw23

def k0_off24 (v378 : BitVec 32) : Fin 2 → Nat :=
  let v379 : Index := Scalar.indexCast v378
  let c0_158 : Index := 0#32
  ![v379.toNat, 0]

def k0_chk24 (v378 : BitVec 32) : Prop :=
  (∀ a, (k0_off24 v378) a + S1x1024.size a ≤ S1024x1024.size a)
theorem k0_off24_inb : ∀ (v378 : BitVec 32) (k0_hw24 : k0_chk24 v378), ∀ a, (k0_off24 v378) a + S1x1024.size a ≤ S1024x1024.size a := fun v378 k0_hw24 => k0_hw24

def k0_off25 (v422 : BitVec 32) : Fin 2 → Nat :=
  let v423 : Index := Scalar.indexCast v422
  let c0_179 : Index := 0#32
  ![v423.toNat, 0]

def k0_chk25 (v422 : BitVec 32) : Prop :=
  (∀ a, (k0_off25 v422) a + S1x1024.size a ≤ S1024x1024.size a)
theorem k0_off25_inb : ∀ (v422 : BitVec 32) (k0_hw25 : k0_chk25 v422), ∀ a, (k0_off25 v422) a + S1x1024.size a ≤ S1024x1024.size a := fun v422 k0_hw25 => k0_hw25

def k0_off26 (v426 : BitVec 32) : Fin 2 → Nat :=
  let v427 : Index := Scalar.indexCast v426
  let c0_180 : Index := 0#32
  ![v427.toNat, 0]

def k0_chk26 (v426 : BitVec 32) : Prop :=
  (∀ a, (k0_off26 v426) a + S1x1024.size a ≤ S1024x1024.size a)
theorem k0_off26_inb : ∀ (v426 : BitVec 32) (k0_hw26 : k0_chk26 v426), ∀ a, (k0_off26 v426) a + S1x1024.size a ≤ S1024x1024.size a := fun v426 k0_hw26 => k0_hw26

def k0_off27 (v430 : BitVec 32) : Fin 2 → Nat :=
  let v431 : Index := Scalar.indexCast v430
  let c0_181 : Index := 0#32
  ![v431.toNat, 0]

def k0_chk27 (v430 : BitVec 32) : Prop :=
  (∀ a, (k0_off27 v430) a + S1x1024.size a ≤ S1024x1024.size a)
theorem k0_off27_inb : ∀ (v430 : BitVec 32) (k0_hw27 : k0_chk27 v430), ∀ a, (k0_off27 v430) a + S1x1024.size a ≤ S1024x1024.size a := fun v430 k0_hw27 => k0_hw27

def k0_off28 (v434 : BitVec 32) : Fin 2 → Nat :=
  let v435 : Index := Scalar.indexCast v434
  let c0_182 : Index := 0#32
  ![v435.toNat, 0]

def k0_chk28 (v434 : BitVec 32) : Prop :=
  (∀ a, (k0_off28 v434) a + S1x1024.size a ≤ S1024x1024.size a)
theorem k0_off28_inb : ∀ (v434 : BitVec 32) (k0_hw28 : k0_chk28 v434), ∀ a, (k0_off28 v434) a + S1x1024.size a ≤ S1024x1024.size a := fun v434 k0_hw28 => k0_hw28

def k0_off29 (v478 : BitVec 32) : Fin 2 → Nat :=
  let v479 : Index := Scalar.indexCast v478
  let c0_203 : Index := 0#32
  ![v479.toNat, 0]

def k0_chk29 (v478 : BitVec 32) : Prop :=
  (∀ a, (k0_off29 v478) a + S1x1024.size a ≤ S1024x1024.size a)
theorem k0_off29_inb : ∀ (v478 : BitVec 32) (k0_hw29 : k0_chk29 v478), ∀ a, (k0_off29 v478) a + S1x1024.size a ≤ S1024x1024.size a := fun v478 k0_hw29 => k0_hw29

def k0_off30 (v482 : BitVec 32) : Fin 2 → Nat :=
  let v483 : Index := Scalar.indexCast v482
  let c0_204 : Index := 0#32
  ![v483.toNat, 0]

def k0_chk30 (v482 : BitVec 32) : Prop :=
  (∀ a, (k0_off30 v482) a + S1x1024.size a ≤ S1024x1024.size a)
theorem k0_off30_inb : ∀ (v482 : BitVec 32) (k0_hw30 : k0_chk30 v482), ∀ a, (k0_off30 v482) a + S1x1024.size a ≤ S1024x1024.size a := fun v482 k0_hw30 => k0_hw30

def k0_off31 (v486 : BitVec 32) : Fin 2 → Nat :=
  let v487 : Index := Scalar.indexCast v486
  let c0_205 : Index := 0#32
  ![v487.toNat, 0]

def k0_chk31 (v486 : BitVec 32) : Prop :=
  (∀ a, (k0_off31 v486) a + S1x1024.size a ≤ S1024x1024.size a)
theorem k0_off31_inb : ∀ (v486 : BitVec 32) (k0_hw31 : k0_chk31 v486), ∀ a, (k0_off31 v486) a + S1x1024.size a ≤ S1024x1024.size a := fun v486 k0_hw31 => k0_hw31

def k0_off32 (v490 : BitVec 32) : Fin 2 → Nat :=
  let v491 : Index := Scalar.indexCast v490
  let c0_206 : Index := 0#32
  ![v491.toNat, 0]

def k0_chk32 (v490 : BitVec 32) : Prop :=
  (∀ a, (k0_off32 v490) a + S1x1024.size a ≤ S1024x1024.size a)
theorem k0_off32_inb : ∀ (v490 : BitVec 32) (k0_hw32 : k0_chk32 v490), ∀ a, (k0_off32 v490) a + S1x1024.size a ≤ S1024x1024.size a := fun v490 k0_hw32 => k0_hw32

def k0_off33 (v534 : BitVec 32) : Fin 2 → Nat :=
  let v535 : Index := Scalar.indexCast v534
  let c0_227 : Index := 0#32
  ![v535.toNat, 0]

def k0_chk33 (v534 : BitVec 32) : Prop :=
  (∀ a, (k0_off33 v534) a + S1x1024.size a ≤ S1024x1024.size a)
theorem k0_off33_inb : ∀ (v534 : BitVec 32) (k0_hw33 : k0_chk33 v534), ∀ a, (k0_off33 v534) a + S1x1024.size a ≤ S1024x1024.size a := fun v534 k0_hw33 => k0_hw33

def k0_off34 (v538 : BitVec 32) : Fin 2 → Nat :=
  let v539 : Index := Scalar.indexCast v538
  let c0_228 : Index := 0#32
  ![v539.toNat, 0]

def k0_chk34 (v538 : BitVec 32) : Prop :=
  (∀ a, (k0_off34 v538) a + S1x1024.size a ≤ S1024x1024.size a)
theorem k0_off34_inb : ∀ (v538 : BitVec 32) (k0_hw34 : k0_chk34 v538), ∀ a, (k0_off34 v538) a + S1x1024.size a ≤ S1024x1024.size a := fun v538 k0_hw34 => k0_hw34

def k0_off35 (v542 : BitVec 32) : Fin 2 → Nat :=
  let v543 : Index := Scalar.indexCast v542
  let c0_229 : Index := 0#32
  ![v543.toNat, 0]

def k0_chk35 (v542 : BitVec 32) : Prop :=
  (∀ a, (k0_off35 v542) a + S1x1024.size a ≤ S1024x1024.size a)
theorem k0_off35_inb : ∀ (v542 : BitVec 32) (k0_hw35 : k0_chk35 v542), ∀ a, (k0_off35 v542) a + S1x1024.size a ≤ S1024x1024.size a := fun v542 k0_hw35 => k0_hw35

def k0_off36 (v546 : BitVec 32) : Fin 2 → Nat :=
  let v547 : Index := Scalar.indexCast v546
  let c0_230 : Index := 0#32
  ![v547.toNat, 0]

def k0_chk36 (v546 : BitVec 32) : Prop :=
  (∀ a, (k0_off36 v546) a + S1x1024.size a ≤ S1024x1024.size a)
theorem k0_off36_inb : ∀ (v546 : BitVec 32) (k0_hw36 : k0_chk36 v546), ∀ a, (k0_off36 v546) a + S1x1024.size a ≤ S1024x1024.size a := fun v546 k0_hw36 => k0_hw36

def k0_off37 (v590 : BitVec 32) : Fin 2 → Nat :=
  let v591 : Index := Scalar.indexCast v590
  let c0_251 : Index := 0#32
  ![v591.toNat, 0]

def k0_chk37 (v590 : BitVec 32) : Prop :=
  (∀ a, (k0_off37 v590) a + S1x1024.size a ≤ S1024x1024.size a)
theorem k0_off37_inb : ∀ (v590 : BitVec 32) (k0_hw37 : k0_chk37 v590), ∀ a, (k0_off37 v590) a + S1x1024.size a ≤ S1024x1024.size a := fun v590 k0_hw37 => k0_hw37

def k0_off38 (v594 : BitVec 32) : Fin 2 → Nat :=
  let v595 : Index := Scalar.indexCast v594
  let c0_252 : Index := 0#32
  ![v595.toNat, 0]

def k0_chk38 (v594 : BitVec 32) : Prop :=
  (∀ a, (k0_off38 v594) a + S1x1024.size a ≤ S1024x1024.size a)
theorem k0_off38_inb : ∀ (v594 : BitVec 32) (k0_hw38 : k0_chk38 v594), ∀ a, (k0_off38 v594) a + S1x1024.size a ≤ S1024x1024.size a := fun v594 k0_hw38 => k0_hw38

def k0_off39 (v598 : BitVec 32) : Fin 2 → Nat :=
  let v599 : Index := Scalar.indexCast v598
  let c0_253 : Index := 0#32
  ![v599.toNat, 0]

def k0_chk39 (v598 : BitVec 32) : Prop :=
  (∀ a, (k0_off39 v598) a + S1x1024.size a ≤ S1024x1024.size a)
theorem k0_off39_inb : ∀ (v598 : BitVec 32) (k0_hw39 : k0_chk39 v598), ∀ a, (k0_off39 v598) a + S1x1024.size a ≤ S1024x1024.size a := fun v598 k0_hw39 => k0_hw39

def k0_off40 (v602 : BitVec 32) : Fin 2 → Nat :=
  let v603 : Index := Scalar.indexCast v602
  let c0_254 : Index := 0#32
  ![v603.toNat, 0]

def k0_chk40 (v602 : BitVec 32) : Prop :=
  (∀ a, (k0_off40 v602) a + S1x1024.size a ≤ S1024x1024.size a)
theorem k0_off40_inb : ∀ (v602 : BitVec 32) (k0_hw40 : k0_chk40 v602), ∀ a, (k0_off40 v602) a + S1x1024.size a ≤ S1024x1024.size a := fun v602 k0_hw40 => k0_hw40

def k0_off41 (v646 : BitVec 32) : Fin 2 → Nat :=
  let v647 : Index := Scalar.indexCast v646
  let c0_275 : Index := 0#32
  ![v647.toNat, 0]

def k0_chk41 (v646 : BitVec 32) : Prop :=
  (∀ a, (k0_off41 v646) a + S1x1024.size a ≤ S1024x1024.size a)
theorem k0_off41_inb : ∀ (v646 : BitVec 32) (k0_hw41 : k0_chk41 v646), ∀ a, (k0_off41 v646) a + S1x1024.size a ≤ S1024x1024.size a := fun v646 k0_hw41 => k0_hw41

def k0_off42 (v650 : BitVec 32) : Fin 2 → Nat :=
  let v651 : Index := Scalar.indexCast v650
  let c0_276 : Index := 0#32
  ![v651.toNat, 0]

def k0_chk42 (v650 : BitVec 32) : Prop :=
  (∀ a, (k0_off42 v650) a + S1x1024.size a ≤ S1024x1024.size a)
theorem k0_off42_inb : ∀ (v650 : BitVec 32) (k0_hw42 : k0_chk42 v650), ∀ a, (k0_off42 v650) a + S1x1024.size a ≤ S1024x1024.size a := fun v650 k0_hw42 => k0_hw42

def k0_off43 (v654 : BitVec 32) : Fin 2 → Nat :=
  let v655 : Index := Scalar.indexCast v654
  let c0_277 : Index := 0#32
  ![v655.toNat, 0]

def k0_chk43 (v654 : BitVec 32) : Prop :=
  (∀ a, (k0_off43 v654) a + S1x1024.size a ≤ S1024x1024.size a)
theorem k0_off43_inb : ∀ (v654 : BitVec 32) (k0_hw43 : k0_chk43 v654), ∀ a, (k0_off43 v654) a + S1x1024.size a ≤ S1024x1024.size a := fun v654 k0_hw43 => k0_hw43

def k0_off44 (v658 : BitVec 32) : Fin 2 → Nat :=
  let v659 : Index := Scalar.indexCast v658
  let c0_278 : Index := 0#32
  ![v659.toNat, 0]

def k0_chk44 (v658 : BitVec 32) : Prop :=
  (∀ a, (k0_off44 v658) a + S1x1024.size a ≤ S1024x1024.size a)
theorem k0_off44_inb : ∀ (v658 : BitVec 32) (k0_hw44 : k0_chk44 v658), ∀ a, (k0_off44 v658) a + S1x1024.size a ≤ S1024x1024.size a := fun v658 k0_hw44 => k0_hw44

def k0_off45 (v702 : BitVec 32) : Fin 2 → Nat :=
  let v703 : Index := Scalar.indexCast v702
  let c0_299 : Index := 0#32
  ![v703.toNat, 0]

def k0_chk45 (v702 : BitVec 32) : Prop :=
  (∀ a, (k0_off45 v702) a + S1x1024.size a ≤ S1024x1024.size a)
theorem k0_off45_inb : ∀ (v702 : BitVec 32) (k0_hw45 : k0_chk45 v702), ∀ a, (k0_off45 v702) a + S1x1024.size a ≤ S1024x1024.size a := fun v702 k0_hw45 => k0_hw45

def k0_off46 (v706 : BitVec 32) : Fin 2 → Nat :=
  let v707 : Index := Scalar.indexCast v706
  let c0_300 : Index := 0#32
  ![v707.toNat, 0]

def k0_chk46 (v706 : BitVec 32) : Prop :=
  (∀ a, (k0_off46 v706) a + S1x1024.size a ≤ S1024x1024.size a)
theorem k0_off46_inb : ∀ (v706 : BitVec 32) (k0_hw46 : k0_chk46 v706), ∀ a, (k0_off46 v706) a + S1x1024.size a ≤ S1024x1024.size a := fun v706 k0_hw46 => k0_hw46

def k0_off47 (v710 : BitVec 32) : Fin 2 → Nat :=
  let v711 : Index := Scalar.indexCast v710
  let c0_301 : Index := 0#32
  ![v711.toNat, 0]

def k0_chk47 (v710 : BitVec 32) : Prop :=
  (∀ a, (k0_off47 v710) a + S1x1024.size a ≤ S1024x1024.size a)
theorem k0_off47_inb : ∀ (v710 : BitVec 32) (k0_hw47 : k0_chk47 v710), ∀ a, (k0_off47 v710) a + S1x1024.size a ≤ S1024x1024.size a := fun v710 k0_hw47 => k0_hw47

def k0_off48 (v714 : BitVec 32) : Fin 2 → Nat :=
  let v715 : Index := Scalar.indexCast v714
  let c0_302 : Index := 0#32
  ![v715.toNat, 0]

def k0_chk48 (v714 : BitVec 32) : Prop :=
  (∀ a, (k0_off48 v714) a + S1x1024.size a ≤ S1024x1024.size a)
theorem k0_off48_inb : ∀ (v714 : BitVec 32) (k0_hw48 : k0_chk48 v714), ∀ a, (k0_off48 v714) a + S1x1024.size a ≤ S1024x1024.size a := fun v714 k0_hw48 => k0_hw48

def k0_off49 (v758 : BitVec 32) : Fin 2 → Nat :=
  let v759 : Index := Scalar.indexCast v758
  let c0_323 : Index := 0#32
  ![v759.toNat, 0]

def k0_chk49 (v758 : BitVec 32) : Prop :=
  (∀ a, (k0_off49 v758) a + S1x1024.size a ≤ S1024x1024.size a)
theorem k0_off49_inb : ∀ (v758 : BitVec 32) (k0_hw49 : k0_chk49 v758), ∀ a, (k0_off49 v758) a + S1x1024.size a ≤ S1024x1024.size a := fun v758 k0_hw49 => k0_hw49

def k0_off50 (v762 : BitVec 32) : Fin 2 → Nat :=
  let v763 : Index := Scalar.indexCast v762
  let c0_324 : Index := 0#32
  ![v763.toNat, 0]

def k0_chk50 (v762 : BitVec 32) : Prop :=
  (∀ a, (k0_off50 v762) a + S1x1024.size a ≤ S1024x1024.size a)
theorem k0_off50_inb : ∀ (v762 : BitVec 32) (k0_hw50 : k0_chk50 v762), ∀ a, (k0_off50 v762) a + S1x1024.size a ≤ S1024x1024.size a := fun v762 k0_hw50 => k0_hw50

def k0_off51 (v766 : BitVec 32) : Fin 2 → Nat :=
  let v767 : Index := Scalar.indexCast v766
  let c0_325 : Index := 0#32
  ![v767.toNat, 0]

def k0_chk51 (v766 : BitVec 32) : Prop :=
  (∀ a, (k0_off51 v766) a + S1x1024.size a ≤ S1024x1024.size a)
theorem k0_off51_inb : ∀ (v766 : BitVec 32) (k0_hw51 : k0_chk51 v766), ∀ a, (k0_off51 v766) a + S1x1024.size a ≤ S1024x1024.size a := fun v766 k0_hw51 => k0_hw51

def k0_off52 (v770 : BitVec 32) : Fin 2 → Nat :=
  let v771 : Index := Scalar.indexCast v770
  let c0_326 : Index := 0#32
  ![v771.toNat, 0]

def k0_chk52 (v770 : BitVec 32) : Prop :=
  (∀ a, (k0_off52 v770) a + S1x1024.size a ≤ S1024x1024.size a)
theorem k0_off52_inb : ∀ (v770 : BitVec 32) (k0_hw52 : k0_chk52 v770), ∀ a, (k0_off52 v770) a + S1x1024.size a ≤ S1024x1024.size a := fun v770 k0_hw52 => k0_hw52

def k0_off53 (v814 : BitVec 32) : Fin 2 → Nat :=
  let v815 : Index := Scalar.indexCast v814
  let c0_347 : Index := 0#32
  ![v815.toNat, 0]

def k0_chk53 (v814 : BitVec 32) : Prop :=
  (∀ a, (k0_off53 v814) a + S1x1024.size a ≤ S1024x1024.size a)
theorem k0_off53_inb : ∀ (v814 : BitVec 32) (k0_hw53 : k0_chk53 v814), ∀ a, (k0_off53 v814) a + S1x1024.size a ≤ S1024x1024.size a := fun v814 k0_hw53 => k0_hw53

def k0_off54 (v818 : BitVec 32) : Fin 2 → Nat :=
  let v819 : Index := Scalar.indexCast v818
  let c0_348 : Index := 0#32
  ![v819.toNat, 0]

def k0_chk54 (v818 : BitVec 32) : Prop :=
  (∀ a, (k0_off54 v818) a + S1x1024.size a ≤ S1024x1024.size a)
theorem k0_off54_inb : ∀ (v818 : BitVec 32) (k0_hw54 : k0_chk54 v818), ∀ a, (k0_off54 v818) a + S1x1024.size a ≤ S1024x1024.size a := fun v818 k0_hw54 => k0_hw54

def k0_off55 (v822 : BitVec 32) : Fin 2 → Nat :=
  let v823 : Index := Scalar.indexCast v822
  let c0_349 : Index := 0#32
  ![v823.toNat, 0]

def k0_chk55 (v822 : BitVec 32) : Prop :=
  (∀ a, (k0_off55 v822) a + S1x1024.size a ≤ S1024x1024.size a)
theorem k0_off55_inb : ∀ (v822 : BitVec 32) (k0_hw55 : k0_chk55 v822), ∀ a, (k0_off55 v822) a + S1x1024.size a ≤ S1024x1024.size a := fun v822 k0_hw55 => k0_hw55

def k0_off56 (v826 : BitVec 32) : Fin 2 → Nat :=
  let v827 : Index := Scalar.indexCast v826
  let c0_350 : Index := 0#32
  ![v827.toNat, 0]

def k0_chk56 (v826 : BitVec 32) : Prop :=
  (∀ a, (k0_off56 v826) a + S1x1024.size a ≤ S1024x1024.size a)
theorem k0_off56_inb : ∀ (v826 : BitVec 32) (k0_hw56 : k0_chk56 v826), ∀ a, (k0_off56 v826) a + S1x1024.size a ≤ S1024x1024.size a := fun v826 k0_hw56 => k0_hw56

def k0_off57 (v870 : BitVec 32) : Fin 2 → Nat :=
  let v871 : Index := Scalar.indexCast v870
  let c0_371 : Index := 0#32
  ![v871.toNat, 0]

def k0_chk57 (v870 : BitVec 32) : Prop :=
  (∀ a, (k0_off57 v870) a + S1x1024.size a ≤ S1024x1024.size a)
theorem k0_off57_inb : ∀ (v870 : BitVec 32) (k0_hw57 : k0_chk57 v870), ∀ a, (k0_off57 v870) a + S1x1024.size a ≤ S1024x1024.size a := fun v870 k0_hw57 => k0_hw57

def k0_off58 (v874 : BitVec 32) : Fin 2 → Nat :=
  let v875 : Index := Scalar.indexCast v874
  let c0_372 : Index := 0#32
  ![v875.toNat, 0]

def k0_chk58 (v874 : BitVec 32) : Prop :=
  (∀ a, (k0_off58 v874) a + S1x1024.size a ≤ S1024x1024.size a)
theorem k0_off58_inb : ∀ (v874 : BitVec 32) (k0_hw58 : k0_chk58 v874), ∀ a, (k0_off58 v874) a + S1x1024.size a ≤ S1024x1024.size a := fun v874 k0_hw58 => k0_hw58

def k0_off59 (v878 : BitVec 32) : Fin 2 → Nat :=
  let v879 : Index := Scalar.indexCast v878
  let c0_373 : Index := 0#32
  ![v879.toNat, 0]

def k0_chk59 (v878 : BitVec 32) : Prop :=
  (∀ a, (k0_off59 v878) a + S1x1024.size a ≤ S1024x1024.size a)
theorem k0_off59_inb : ∀ (v878 : BitVec 32) (k0_hw59 : k0_chk59 v878), ∀ a, (k0_off59 v878) a + S1x1024.size a ≤ S1024x1024.size a := fun v878 k0_hw59 => k0_hw59

def k0_off60 (v882 : BitVec 32) : Fin 2 → Nat :=
  let v883 : Index := Scalar.indexCast v882
  let c0_374 : Index := 0#32
  ![v883.toNat, 0]

def k0_chk60 (v882 : BitVec 32) : Prop :=
  (∀ a, (k0_off60 v882) a + S1x1024.size a ≤ S1024x1024.size a)
theorem k0_off60_inb : ∀ (v882 : BitVec 32) (k0_hw60 : k0_chk60 v882), ∀ a, (k0_off60 v882) a + S1x1024.size a ≤ S1024x1024.size a := fun v882 k0_hw60 => k0_hw60

def k0_off61 (v926 : BitVec 32) : Fin 2 → Nat :=
  let v927 : Index := Scalar.indexCast v926
  let c0_395 : Index := 0#32
  ![v927.toNat, 0]

def k0_chk61 (v926 : BitVec 32) : Prop :=
  (∀ a, (k0_off61 v926) a + S1x1024.size a ≤ S1024x1024.size a)
theorem k0_off61_inb : ∀ (v926 : BitVec 32) (k0_hw61 : k0_chk61 v926), ∀ a, (k0_off61 v926) a + S1x1024.size a ≤ S1024x1024.size a := fun v926 k0_hw61 => k0_hw61

def k0_off62 (v930 : BitVec 32) : Fin 2 → Nat :=
  let v931 : Index := Scalar.indexCast v930
  let c0_396 : Index := 0#32
  ![v931.toNat, 0]

def k0_chk62 (v930 : BitVec 32) : Prop :=
  (∀ a, (k0_off62 v930) a + S1x1024.size a ≤ S1024x1024.size a)
theorem k0_off62_inb : ∀ (v930 : BitVec 32) (k0_hw62 : k0_chk62 v930), ∀ a, (k0_off62 v930) a + S1x1024.size a ≤ S1024x1024.size a := fun v930 k0_hw62 => k0_hw62

def k0_off63 (v934 : BitVec 32) : Fin 2 → Nat :=
  let v935 : Index := Scalar.indexCast v934
  let c0_397 : Index := 0#32
  ![v935.toNat, 0]

def k0_chk63 (v934 : BitVec 32) : Prop :=
  (∀ a, (k0_off63 v934) a + S1x1024.size a ≤ S1024x1024.size a)
theorem k0_off63_inb : ∀ (v934 : BitVec 32) (k0_hw63 : k0_chk63 v934), ∀ a, (k0_off63 v934) a + S1x1024.size a ≤ S1024x1024.size a := fun v934 k0_hw63 => k0_hw63

def k0_off64 (v938 : BitVec 32) : Fin 2 → Nat :=
  let v939 : Index := Scalar.indexCast v938
  let c0_398 : Index := 0#32
  ![v939.toNat, 0]

def k0_chk64 (v938 : BitVec 32) : Prop :=
  (∀ a, (k0_off64 v938) a + S1x1024.size a ≤ S1024x1024.size a)
theorem k0_off64_inb : ∀ (v938 : BitVec 32) (k0_hw64 : k0_chk64 v938), ∀ a, (k0_off64 v938) a + S1x1024.size a ≤ S1024x1024.size a := fun v938 k0_hw64 => k0_hw64

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x1024x384 : Shape := ⟨3, ![32, 1024, 384]⟩
abbrev S384x384 : Shape := ⟨2, ![384, 384]⟩
abbrev S384 : Shape := ⟨1, ![384]⟩
abbrev S256x384 : Shape := ⟨2, ![256, 384]⟩
abbrev S256 : Shape := ⟨1, ![256]⟩
abbrev S1x1x384 : Shape := ⟨3, ![1, 1, 384]⟩
abbrev S_ : Shape := ⟨0, ![]⟩
abbrev S32x1024 : Shape := ⟨2, ![32, 1024]⟩
abbrev S32x1024x1 : Shape := ⟨3, ![32, 1024, 1]⟩
abbrev S32x16x1024 : Shape := ⟨3, ![32, 16, 1024]⟩
abbrev S32 : Shape := ⟨1, ![32]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩
abbrev S32x1x384 : Shape := ⟨3, ![32, 1, 384]⟩
abbrev S32x1x1024 : Shape := ⟨3, ![32, 1, 1024]⟩
abbrev S32x16 : Shape := ⟨2, ![32, 16]⟩
abbrev S32x16x384 : Shape := ⟨3, ![32, 16, 384]⟩
abbrev S32x16x1 : Shape := ⟨3, ![32, 16, 1]⟩
abbrev S384x256 : Shape := ⟨2, ![384, 256]⟩
abbrev S32x16x256 : Shape := ⟨3, ![32, 16, 256]⟩
abbrev S1x1x256 : Shape := ⟨3, ![1, 1, 256]⟩

abbrev nBuf : Space → Nat
  | .hbm => 419
  | .vmem => 0
  | .smem => 0
  | _ => 0

abbrev hbmTy0_0 (i : Nat) : BufTy := match i % 128 with
  | 0 => ⟨S32x1024x384, .f32⟩
  | 1 => ⟨S384x384, .f32⟩
  | 2 => ⟨S384, .f32⟩
  | 3 => ⟨S256x384, .f32⟩
  | 4 => ⟨S256, .f32⟩
  | 5 => ⟨S384x384, .f32⟩
  | 6 => ⟨S32x1024x384, .f32⟩
  | 7 => ⟨S1x1x384, .f32⟩
  | 8 => ⟨S32x1024x384, .f32⟩
  | 9 => ⟨S32x1024x384, .f32⟩
  | 10 => ⟨S32x1024x384, .f32⟩
  | 11 => ⟨S_, .f32⟩
  | 12 => ⟨S32x1024, .f32⟩
  | 13 => ⟨S32x1024x1, .f32⟩
  | 14 => ⟨S32x1024x1, .f32⟩
  | 15 => ⟨S_, .f32⟩
  | 16 => ⟨S_, .f32⟩
  | 17 => ⟨S32x1024x1, .f32⟩
  | 18 => ⟨S32x1024x1, .f32⟩
  | 19 => ⟨S32x1024x384, .f32⟩
  | 20 => ⟨S32x1024x384, .f32⟩
  | 21 => ⟨S_, .f32⟩
  | 22 => ⟨S32x1024, .f32⟩
  | 23 => ⟨S32x1024, .i32⟩
  | 24 => ⟨S_, .i32⟩
  | 25 => ⟨S32x1024, .i32⟩
  | 26 => ⟨S32x1024, .i32⟩
  | 27 => ⟨S32x1024, .i32⟩
  | 28 => ⟨S32x1024, .i32⟩
  | 29 => ⟨S_, .i32⟩
  | 30 => ⟨S32x1024, .i32⟩
  | 31 => ⟨S_, .i32⟩
  | 32 => ⟨S32x1024, .i32⟩
  | 33 => ⟨S32x1024, .i32⟩
  | 34 => ⟨S_, .i32⟩
  | 35 => ⟨S32x1024, .i32⟩
  | 36 => ⟨S32x1024, .i32⟩
  | 37 => ⟨S32x1024, .i32⟩
  | 38 => ⟨S_, .i32⟩
  | 39 => ⟨S32x1024, .i32⟩
  | 40 => ⟨S32x1024, .i32⟩
  | 41 => ⟨S_, .i32⟩
  | 42 => ⟨S32x1024, .i32⟩
  | 43 => ⟨S32x1024, .i32⟩
  | 44 => ⟨S32x1024, .i32⟩
  | 45 => ⟨S32x1024, .i32⟩
  | 46 => ⟨S32x1024, .i32⟩
  | 47 => ⟨S_, .i32⟩
  | 48 => ⟨S32x1024, .i32⟩
  | 49 => ⟨S32x1024, .i32⟩
  | 50 => ⟨S_, .i32⟩
  | 51 => ⟨S32x1024, .i32⟩
  | 52 => ⟨S32x1024, .i32⟩
  | 53 => ⟨S32x1024, .i32⟩
  | 54 => ⟨S32x1024, .i32⟩
  | 55 => ⟨S32x1024, .i32⟩
  | 56 => ⟨S_, .i32⟩
  | 57 => ⟨S32x1024, .i32⟩
  | 58 => ⟨S32x1024, .i32⟩
  | 59 => ⟨S_, .i32⟩
  | 60 => ⟨S32x1024, .i32⟩
  | 61 => ⟨S32x1024, .i32⟩
  | 62 => ⟨S32x1024, .i32⟩
  | 63 => ⟨S32x1024, .i32⟩
  | 64 => ⟨S32x1024, .i32⟩
  | 65 => ⟨S_, .i32⟩
  | 66 => ⟨S32x1024, .i32⟩
  | 67 => ⟨S32x1024, .i32⟩
  | 68 => ⟨S_, .i32⟩
  | 69 => ⟨S32x1024, .i32⟩
  | 70 => ⟨S32x1024, .i32⟩
  | 71 => ⟨S32x1024, .i32⟩
  | 72 => ⟨S32x1024, .i32⟩
  | 73 => ⟨S_, .i32⟩
  | 74 => ⟨S32x1024, .i32⟩
  | 75 => ⟨S32x1024, .i32⟩
  | 76 => ⟨S_, .i32⟩
  | 77 => ⟨S32x1024, .i32⟩
  | 78 => ⟨S32x1024, .i32⟩
  | 79 => ⟨S_, .i32⟩
  | 80 => ⟨S32x1024, .i32⟩
  | 81 => ⟨S32x1024, .i32⟩
  | 82 => ⟨S32x1024, .i32⟩
  | 83 => ⟨S_, .i32⟩
  | 84 => ⟨S32x1024, .i32⟩
  | 85 => ⟨S32x1024, .i32⟩
  | 86 => ⟨S_, .i32⟩
  | 87 => ⟨S32x1024, .i32⟩
  | 88 => ⟨S32x1024, .i32⟩
  | 89 => ⟨S32x1024, .i32⟩
  | 90 => ⟨S32x1024, .i32⟩
  | 91 => ⟨S32x1024, .i32⟩
  | 92 => ⟨S_, .i32⟩
  | 93 => ⟨S32x1024, .i32⟩
  | 94 => ⟨S32x1024, .i32⟩
  | 95 => ⟨S_, .i32⟩
  | 96 => ⟨S32x1024, .i32⟩
  | 97 => ⟨S32x1024, .i32⟩
  | 98 => ⟨S32x1024, .i32⟩
  | 99 => ⟨S32x1024, .i32⟩
  | 100 => ⟨S32x1024, .i32⟩
  | 101 => ⟨S_, .i32⟩
  | 102 => ⟨S32x1024, .i32⟩
  | 103 => ⟨S32x1024, .i32⟩
  | 104 => ⟨S_, .i32⟩
  | 105 => ⟨S32x1024, .i32⟩
  | 106 => ⟨S32x1024, .i32⟩
  | 107 => ⟨S32x1024, .i32⟩
  | 108 => ⟨S32x1024, .i32⟩
  | 109 => ⟨S32x1024, .i32⟩
  | 110 => ⟨S_, .i32⟩
  | 111 => ⟨S32x1024, .i32⟩
  | 112 => ⟨S32x1024, .i32⟩
  | 113 => ⟨S_, .i32⟩
  | 114 => ⟨S32x1024, .i32⟩
  | 115 => ⟨S32x1024, .i32⟩
  | 116 => ⟨S32x1024, .i32⟩
  | 117 => ⟨S32x1024, .i32⟩
  | 118 => ⟨S_, .i32⟩
  | 119 => ⟨S32x1024, .i32⟩
  | 120 => ⟨S32x1024, .i32⟩
  | 121 => ⟨S_, .i32⟩
  | 122 => ⟨S32x1024, .i32⟩
  | 123 => ⟨S32x1024, .i32⟩
  | 124 => ⟨S_, .i32⟩
  | 125 => ⟨S32x1024, .i32⟩
  | 126 => ⟨S32x1024, .i32⟩
  | 127 => ⟨S32x1024, .i32⟩
  | _ => ⟨S32x1024x384, .f32⟩

abbrev hbmTy0_1 (i : Nat) : BufTy := match i % 128 with
  | 0 => ⟨S_, .i32⟩
  | 1 => ⟨S32x1024, .i32⟩
  | 2 => ⟨S32x1024, .i32⟩
  | 3 => ⟨S_, .i32⟩
  | 4 => ⟨S32x1024, .i32⟩
  | 5 => ⟨S32x1024, .i32⟩
  | 6 => ⟨S32x1024, .i32⟩
  | 7 => ⟨S32x1024, .i32⟩
  | 8 => ⟨S32x1024, .i32⟩
  | 9 => ⟨S_, .i32⟩
  | 10 => ⟨S32x1024, .i32⟩
  | 11 => ⟨S32x1024, .i32⟩
  | 12 => ⟨S_, .i32⟩
  | 13 => ⟨S32x1024, .i32⟩
  | 14 => ⟨S32x1024, .i32⟩
  | 15 => ⟨S32x1024, .i32⟩
  | 16 => ⟨S32x1024, .i32⟩
  | 17 => ⟨S32x1024, .i32⟩
  | 18 => ⟨S_, .i32⟩
  | 19 => ⟨S32x1024, .i32⟩
  | 20 => ⟨S32x1024, .i32⟩
  | 21 => ⟨S_, .i32⟩
  | 22 => ⟨S32x1024, .i32⟩
  | 23 => ⟨S32x1024, .i32⟩
  | 24 => ⟨S32x1024, .i32⟩
  | 25 => ⟨S32x1024, .i32⟩
  | 26 => ⟨S32x1024, .i32⟩
  | 27 => ⟨S_, .i32⟩
  | 28 => ⟨S32x1024, .i32⟩
  | 29 => ⟨S32x1024, .i32⟩
  | 30 => ⟨S_, .i32⟩
  | 31 => ⟨S32x1024, .i32⟩
  | 32 => ⟨S32x1024, .i32⟩
  | 33 => ⟨S32x1024, .i32⟩
  | 34 => ⟨S32x1024, .i32⟩
  | 35 => ⟨S_, .i32⟩
  | 36 => ⟨S32x1024, .i32⟩
  | 37 => ⟨S32x1024, .i32⟩
  | 38 => ⟨S_, .i32⟩
  | 39 => ⟨S32x1024, .i32⟩
  | 40 => ⟨S32x1024, .i32⟩
  | 41 => ⟨S_, .i32⟩
  | 42 => ⟨S32x1024, .i32⟩
  | 43 => ⟨S32x1024, .i32⟩
  | 44 => ⟨S32x1024, .i32⟩
  | 45 => ⟨S_, .i32⟩
  | 46 => ⟨S32x1024, .i32⟩
  | 47 => ⟨S32x1024, .i32⟩
  | 48 => ⟨S_, .i32⟩
  | 49 => ⟨S32x1024, .i32⟩
  | 50 => ⟨S32x1024, .i32⟩
  | 51 => ⟨S32x1024, .i32⟩
  | 52 => ⟨S32x1024, .i32⟩
  | 53 => ⟨S32x1024, .i32⟩
  | 54 => ⟨S_, .i32⟩
  | 55 => ⟨S32x1024, .i32⟩
  | 56 => ⟨S32x1024, .i32⟩
  | 57 => ⟨S_, .i32⟩
  | 58 => ⟨S32x1024, .i32⟩
  | 59 => ⟨S32x1024, .i32⟩
  | 60 => ⟨S32x1024, .i32⟩
  | 61 => ⟨S32x1024, .i32⟩
  | 62 => ⟨S32x1024, .i32⟩
  | 63 => ⟨S_, .i32⟩
  | 64 => ⟨S32x1024, .i32⟩
  | 65 => ⟨S32x1024, .i32⟩
  | 66 => ⟨S_, .i32⟩
  | 67 => ⟨S32x1024, .i32⟩
  | 68 => ⟨S32x1024, .i32⟩
  | 69 => ⟨S32x1024, .i32⟩
  | 70 => ⟨S32x1024, .i32⟩
  | 71 => ⟨S32x1024, .i32⟩
  | 72 => ⟨S_, .i32⟩
  | 73 => ⟨S32x1024, .i32⟩
  | 74 => ⟨S32x1024, .i32⟩
  | 75 => ⟨S_, .i32⟩
  | 76 => ⟨S32x1024, .i32⟩
  | 77 => ⟨S32x1024, .i32⟩
  | 78 => ⟨S32x1024, .i32⟩
  | 79 => ⟨S32x1024, .i32⟩
  | 80 => ⟨S_, .i32⟩
  | 81 => ⟨S32x1024, .i32⟩
  | 82 => ⟨S32x1024, .i32⟩
  | 83 => ⟨S_, .i32⟩
  | 84 => ⟨S32x1024, .i32⟩
  | 85 => ⟨S32x1024, .i32⟩
  | 86 => ⟨S_, .i32⟩
  | 87 => ⟨S32x1024, .i32⟩
  | 88 => ⟨S32x1024, .i32⟩
  | 89 => ⟨S32x1024, .i32⟩
  | 90 => ⟨S_, .i32⟩
  | 91 => ⟨S32x1024, .i32⟩
  | 92 => ⟨S32x1024, .i32⟩
  | 93 => ⟨S_, .i32⟩
  | 94 => ⟨S32x1024, .i32⟩
  | 95 => ⟨S32x1024, .i32⟩
  | 96 => ⟨S32x1024, .i32⟩
  | 97 => ⟨S32x1024, .i32⟩
  | 98 => ⟨S32x1024, .i32⟩
  | 99 => ⟨S_, .i32⟩
  | 100 => ⟨S32x1024, .i32⟩
  | 101 => ⟨S32x1024, .i32⟩
  | 102 => ⟨S_, .i32⟩
  | 103 => ⟨S32x1024, .i32⟩
  | 104 => ⟨S32x1024, .i32⟩
  | 105 => ⟨S32x1024, .i32⟩
  | 106 => ⟨S32x1024, .i32⟩
  | 107 => ⟨S32x1024, .i32⟩
  | 108 => ⟨S_, .i32⟩
  | 109 => ⟨S32x1024, .i32⟩
  | 110 => ⟨S32x1024, .i32⟩
  | 111 => ⟨S_, .i32⟩
  | 112 => ⟨S32x1024, .i32⟩
  | 113 => ⟨S32x1024, .i32⟩
  | 114 => ⟨S32x1024, .i32⟩
  | 115 => ⟨S32x1024, .i32⟩
  | 116 => ⟨S32x1024, .i32⟩
  | 117 => ⟨S_, .i32⟩
  | 118 => ⟨S32x1024, .i32⟩
  | 119 => ⟨S32x1024, .i32⟩
  | 120 => ⟨S_, .i32⟩
  | 121 => ⟨S32x1024, .i32⟩
  | 122 => ⟨S32x1024, .i32⟩
  | 123 => ⟨S32x1024, .i32⟩
  | 124 => ⟨S32x1024, .i32⟩
  | 125 => ⟨S_, .i32⟩
  | 126 => ⟨S32x1024, .i32⟩
  | 127 => ⟨S32x1024, .i32⟩
  | _ => ⟨S32x1024x384, .f32⟩

abbrev hbmTy0_2 (i : Nat) : BufTy := match i % 128 with
  | 0 => ⟨S_, .i32⟩
  | 1 => ⟨S32x1024, .i32⟩
  | 2 => ⟨S32x1024, .i32⟩
  | 3 => ⟨S_, .i32⟩
  | 4 => ⟨S32x1024, .i32⟩
  | 5 => ⟨S32x1024, .i32⟩
  | 6 => ⟨S32x1024, .i32⟩
  | 7 => ⟨S_, .i32⟩
  | 8 => ⟨S32x1024, .i32⟩
  | 9 => ⟨S32x1024, .i32⟩
  | 10 => ⟨S_, .i32⟩
  | 11 => ⟨S32x1024, .i32⟩
  | 12 => ⟨S32x1024, .i32⟩
  | 13 => ⟨S32x1024, .f32⟩
  | 14 => ⟨S_, .f32⟩
  | 15 => ⟨S32x1024, .f32⟩
  | 16 => ⟨S32x1024, .f32⟩
  | 17 => ⟨S_, .f32⟩
  | 18 => ⟨S32x1024, .f32⟩
  | 19 => ⟨S32x1024, .f32⟩
  | 20 => ⟨S_, .f32⟩
  | 21 => ⟨S_, .f32⟩
  | 22 => ⟨S32x1024, .f32⟩
  | 23 => ⟨S32x1024, .f32⟩
  | 24 => ⟨S32x1024, .f32⟩
  | 25 => ⟨S_, .f32⟩
  | 26 => ⟨S_, .f32⟩
  | 27 => ⟨S_, .f32⟩
  | 28 => ⟨S32x16x1024, .f32⟩
  | 29 => ⟨S_, .i32⟩
  | 30 => ⟨S_, .i32⟩
  | 31 => ⟨S32x1024, .f32⟩
  | 32 => ⟨S32x1024x384, .f32⟩
  | 33 => ⟨S_, .f32⟩
  | 34 => ⟨S_, .i32⟩
  | 35 => ⟨S_, .i32⟩
  | 36 => ⟨S32x1024, .f32⟩
  | 37 => ⟨S32x16x1024, .f32⟩
  | 38 => ⟨S32x16x1024, .f32⟩
  | 39 => ⟨S_, .i32⟩
  | 40 => ⟨S_, .i1⟩
  | 41 => ⟨S_, .i32⟩
  | 42 => ⟨S_, .i32⟩
  | 43 => ⟨S32x1024, .f32⟩
  | 44 => ⟨S_, .f32⟩
  | 45 => ⟨S32, .f32⟩
  | 46 => ⟨S32x1, .f32⟩
  | 47 => ⟨S32x1024, .f32⟩
  | 48 => ⟨S32x1024, .i1⟩
  | 49 => ⟨S32x1024, .i32⟩
  | 50 => ⟨S_, .i32⟩
  | 51 => ⟨S_, .i32⟩
  | 52 => ⟨S32x1024, .i32⟩
  | 53 => ⟨S32x1024, .i32⟩
  | 54 => ⟨S_, .i32⟩
  | 55 => ⟨S32, .i32⟩
  | 56 => ⟨S32x1x1, .i32⟩
  | 57 => ⟨S_, .i32⟩
  | 58 => ⟨S32x1x1, .i32⟩
  | 59 => ⟨S32x1x1, .i1⟩
  | 60 => ⟨S_, .i32⟩
  | 61 => ⟨S32x1x1, .i32⟩
  | 62 => ⟨S32x1x1, .i32⟩
  | 63 => ⟨S32x1x1, .i32⟩
  | 64 => ⟨S1, .i32⟩
  | 65 => ⟨S_, .i32⟩
  | 66 => ⟨S32x1x1, .i32⟩
  | 67 => ⟨S32x1x1, .i1⟩
  | 68 => ⟨S1x1x1, .i32⟩
  | 69 => ⟨S32x1x1, .i32⟩
  | 70 => ⟨S32x1x1, .i1⟩
  | 71 => ⟨S32x1x1, .i1⟩
  | 72 => ⟨S_, .i1⟩
  | 73 => ⟨S32x1, .i1⟩
  | 74 => ⟨S32x1x384, .f32⟩
  | 75 => ⟨S32x1x384, .i1⟩
  | 76 => ⟨S_, .f32⟩
  | 77 => ⟨S32x1x384, .f32⟩
  | 78 => ⟨S32x1x384, .f32⟩
  | 79 => ⟨S32x1024x384, .f32⟩
  | 80 => ⟨S32x1024x384, .f32⟩
  | 81 => ⟨S32x1024x384, .f32⟩
  | 82 => ⟨S_, .f32⟩
  | 83 => ⟨S32x1024, .f32⟩
  | 84 => ⟨S32x1024, .f32⟩
  | 85 => ⟨S32x1024, .f32⟩
  | 86 => ⟨S32x1024, .f32⟩
  | 87 => ⟨S_, .f32⟩
  | 88 => ⟨S_, .f32⟩
  | 89 => ⟨S32x1024, .f32⟩
  | 90 => ⟨S32x1024, .f32⟩
  | 91 => ⟨S32x1024, .f32⟩
  | 92 => ⟨S32x1024, .f32⟩
  | 93 => ⟨S32x1024, .f32⟩
  | 94 => ⟨S_, .f32⟩
  | 95 => ⟨S32x1024, .f32⟩
  | 96 => ⟨S32x1024, .f32⟩
  | 97 => ⟨S_, .f32⟩
  | 98 => ⟨S_, .f32⟩
  | 99 => ⟨S32x1024, .f32⟩
  | 100 => ⟨S32x1024, .f32⟩
  | 101 => ⟨S32x1024, .f32⟩
  | 102 => ⟨S32x16x1024, .i32⟩
  | 103 => ⟨S_, .i32⟩
  | 104 => ⟨S32x16x1024, .i32⟩
  | 105 => ⟨S32x16x1024, .i1⟩
  | 106 => ⟨S32x1x1024, .f32⟩
  | 107 => ⟨S32x16x1024, .f32⟩
  | 108 => ⟨S32x16x1024, .f32⟩
  | 109 => ⟨S32x1x1024, .f32⟩
  | 110 => ⟨S32x16x1024, .f32⟩
  | 111 => ⟨S32x16x1024, .f32⟩
  | 112 => ⟨S32x1024, .f32⟩
  | 113 => ⟨S_, .i32⟩
  | 114 => ⟨S_, .i32⟩
  | 115 => ⟨S32x16x1024, .f32⟩
  | 116 => ⟨S_, .i1⟩
  | 117 => ⟨S32x16, .i1⟩
  | 118 => ⟨S_, .f32⟩
  | 119 => ⟨S32x16, .f32⟩
  | 120 => ⟨S_, .f32⟩
  | 121 => ⟨S32x16, .f32⟩
  | 122 => ⟨S32x16, .f32⟩
  | 123 => ⟨S_, .f32⟩
  | 124 => ⟨S32x16, .f32⟩
  | 125 => ⟨S32x16, .i1⟩
  | 126 => ⟨S32x16, .i1⟩
  | 127 => ⟨S_, .f32⟩
  | _ => ⟨S32x1024x384, .f32⟩

abbrev hbmTy0_3 (i : Nat) : BufTy := match i % 128 with
  | 0 => ⟨S32x16, .f32⟩
  | 1 => ⟨S_, .f32⟩
  | 2 => ⟨S32x16, .f32⟩
  | 3 => ⟨S32x16, .f32⟩
  | 4 => ⟨S_, .f32⟩
  | 5 => ⟨S32x16, .f32⟩
  | 6 => ⟨S32x16, .i1⟩
  | 7 => ⟨S32x16, .i1⟩
  | 8 => ⟨S_, .f32⟩
  | 9 => ⟨S32x16, .f32⟩
  | 10 => ⟨S_, .f32⟩
  | 11 => ⟨S32x16, .f32⟩
  | 12 => ⟨S32x16, .i1⟩
  | 13 => ⟨S32x16, .i1⟩
  | 14 => ⟨S32x16x384, .f32⟩
  | 15 => ⟨S_, .f32⟩
  | 16 => ⟨S32x16, .f32⟩
  | 17 => ⟨S32x16x1, .f32⟩
  | 18 => ⟨S_, .f32⟩
  | 19 => ⟨S_, .f32⟩
  | 20 => ⟨S32x16x1, .f32⟩
  | 21 => ⟨S32x16x1, .f32⟩
  | 22 => ⟨S32x16x384, .f32⟩
  | 23 => ⟨S32x16x384, .f32⟩
  | 24 => ⟨S384x256, .f32⟩
  | 25 => ⟨S32x16x256, .f32⟩
  | 26 => ⟨S1x1x256, .f32⟩
  | 27 => ⟨S32x16x256, .f32⟩
  | 28 => ⟨S32x16x256, .f32⟩
  | 29 => ⟨S32x16x1, .i1⟩
  | 30 => ⟨S_, .f32⟩
  | 31 => ⟨S_, .f32⟩
  | 32 => ⟨S32x16x256, .i1⟩
  | 33 => ⟨S32x16x256, .f32⟩
  | 34 => ⟨S32x16x256, .f32⟩
  | _ => ⟨S32x1024x384, .f32⟩

abbrev hbmTy (i : Nat) : BufTy := match i / 128 with
  | 0 => hbmTy0_0 i
  | 1 => hbmTy0_1 i
  | 2 => hbmTy0_2 i
  | 3 => hbmTy0_3 i
  | _ => ⟨S32x1024x384, .f32⟩

abbrev bufTy : (tb : Table) → Fin (tcTables nBuf tb) → BufTy
  | .hbm, ⟨i, _⟩ => hbmTy i
  | _, _ => ⟨S32x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_13 : Ref sig .tc := ⟨.hbm, 73, rfl⟩
abbrev main_v51 : Ref sig .tc := ⟨.hbm, 74, rfl⟩
abbrev main_v52 : Ref sig .tc := ⟨.hbm, 75, rfl⟩
abbrev main_c_14 : Ref sig .tc := ⟨.hbm, 76, rfl⟩
abbrev main_v53 : Ref sig .tc := ⟨.hbm, 77, rfl⟩
abbrev main_v54 : Ref sig .tc := ⟨.hbm, 78, rfl⟩
abbrev main_c_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_16 : Ref sig .tc := ⟨.hbm, 83, rfl⟩
abbrev main_v58 : Ref sig .tc := ⟨.hbm, 84, rfl⟩
abbrev main_v59 : Ref sig .tc := ⟨.hbm, 85, rfl⟩
abbrev main_c_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_18 : Ref sig .tc := ⟨.hbm, 92, rfl⟩
abbrev main_v65 : Ref sig .tc := ⟨.hbm, 93, rfl⟩
abbrev main_v66 : Ref sig .tc := ⟨.hbm, 94, rfl⟩
abbrev main_c_19 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_20 : Ref sig .tc := ⟨.hbm, 101, rfl⟩
abbrev main_v72 : Ref sig .tc := ⟨.hbm, 102, rfl⟩
abbrev main_v73 : Ref sig .tc := ⟨.hbm, 103, rfl⟩
abbrev main_c_21 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_22 : Ref sig .tc := ⟨.hbm, 110, rfl⟩
abbrev main_v79 : Ref sig .tc := ⟨.hbm, 111, rfl⟩
abbrev main_v80 : Ref sig .tc := ⟨.hbm, 112, rfl⟩
abbrev main_c_23 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_24 : Ref sig .tc := ⟨.hbm, 118, rfl⟩
abbrev main_v85 : Ref sig .tc := ⟨.hbm, 119, rfl⟩
abbrev main_v86 : Ref sig .tc := ⟨.hbm, 120, rfl⟩
abbrev main_c_25 : Ref sig .tc := ⟨.hbm, 121, rfl⟩
abbrev main_v87 : Ref sig .tc := ⟨.hbm, 122, rfl⟩
abbrev main_v88 : Ref sig .tc := ⟨.hbm, 123, rfl⟩
abbrev main_c_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_27 : Ref sig .tc := ⟨.hbm, 128, rfl⟩
abbrev main_v92 : Ref sig .tc := ⟨.hbm, 129, rfl⟩
abbrev main_v93 : Ref sig .tc := ⟨.hbm, 130, rfl⟩
abbrev main_c_28 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_29 : Ref sig .tc := ⟨.hbm, 137, rfl⟩
abbrev main_v99 : Ref sig .tc := ⟨.hbm, 138, rfl⟩
abbrev main_v100 : Ref sig .tc := ⟨.hbm, 139, rfl⟩
abbrev main_c_30 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_31 : Ref sig .tc := ⟨.hbm, 146, rfl⟩
abbrev main_v106 : Ref sig .tc := ⟨.hbm, 147, rfl⟩
abbrev main_v107 : Ref sig .tc := ⟨.hbm, 148, rfl⟩
abbrev main_c_32 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_c_33 : Ref sig .tc := ⟨.hbm, 155, rfl⟩
abbrev main_v113 : Ref sig .tc := ⟨.hbm, 156, rfl⟩
abbrev main_v114 : Ref sig .tc := ⟨.hbm, 157, rfl⟩
abbrev main_c_34 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_35 : Ref sig .tc := ⟨.hbm, 163, rfl⟩
abbrev main_v119 : Ref sig .tc := ⟨.hbm, 164, rfl⟩
abbrev main_v120 : Ref sig .tc := ⟨.hbm, 165, rfl⟩
abbrev main_c_36 : Ref sig .tc := ⟨.hbm, 166, rfl⟩
abbrev main_v121 : Ref sig .tc := ⟨.hbm, 167, rfl⟩
abbrev main_v122 : Ref sig .tc := ⟨.hbm, 168, rfl⟩
abbrev main_c_37 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_38 : Ref sig .tc := ⟨.hbm, 173, rfl⟩
abbrev main_v126 : Ref sig .tc := ⟨.hbm, 174, rfl⟩
abbrev main_v127 : Ref sig .tc := ⟨.hbm, 175, rfl⟩
abbrev main_c_39 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_40 : Ref sig .tc := ⟨.hbm, 182, rfl⟩
abbrev main_v133 : Ref sig .tc := ⟨.hbm, 183, rfl⟩
abbrev main_v134 : Ref sig .tc := ⟨.hbm, 184, rfl⟩
abbrev main_c_41 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_c_42 : Ref sig .tc := ⟨.hbm, 191, rfl⟩
abbrev main_v140 : Ref sig .tc := ⟨.hbm, 192, rfl⟩
abbrev main_v141 : Ref sig .tc := ⟨.hbm, 193, rfl⟩
abbrev main_c_43 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_c_44 : Ref sig .tc := ⟨.hbm, 200, rfl⟩
abbrev main_v147 : Ref sig .tc := ⟨.hbm, 201, rfl⟩
abbrev main_v148 : Ref sig .tc := ⟨.hbm, 202, rfl⟩
abbrev main_c_45 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_46 : Ref sig .tc := ⟨.hbm, 208, rfl⟩
abbrev main_v153 : Ref sig .tc := ⟨.hbm, 209, rfl⟩
abbrev main_v154 : Ref sig .tc := ⟨.hbm, 210, rfl⟩
abbrev main_c_47 : Ref sig .tc := ⟨.hbm, 211, rfl⟩
abbrev main_v155 : Ref sig .tc := ⟨.hbm, 212, rfl⟩
abbrev main_v156 : Ref sig .tc := ⟨.hbm, 213, rfl⟩
abbrev main_c_48 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_49 : Ref sig .tc := ⟨.hbm, 218, rfl⟩
abbrev main_v160 : Ref sig .tc := ⟨.hbm, 219, rfl⟩
abbrev main_v161 : Ref sig .tc := ⟨.hbm, 220, rfl⟩
abbrev main_c_50 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_c_51 : Ref sig .tc := ⟨.hbm, 227, rfl⟩
abbrev main_v167 : Ref sig .tc := ⟨.hbm, 228, rfl⟩
abbrev main_v168 : Ref sig .tc := ⟨.hbm, 229, rfl⟩
abbrev main_c_52 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_c_53 : Ref sig .tc := ⟨.hbm, 236, rfl⟩
abbrev main_v174 : Ref sig .tc := ⟨.hbm, 237, rfl⟩
abbrev main_v175 : Ref sig .tc := ⟨.hbm, 238, rfl⟩
abbrev main_c_54 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_c_55 : Ref sig .tc := ⟨.hbm, 245, rfl⟩
abbrev main_v181 : Ref sig .tc := ⟨.hbm, 246, rfl⟩
abbrev main_v182 : Ref sig .tc := ⟨.hbm, 247, rfl⟩
abbrev main_c_56 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_c_57 : Ref sig .tc := ⟨.hbm, 253, rfl⟩
abbrev main_v187 : Ref sig .tc := ⟨.hbm, 254, rfl⟩
abbrev main_v188 : Ref sig .tc := ⟨.hbm, 255, rfl⟩
abbrev main_c_58 : Ref sig .tc := ⟨.hbm, 256, rfl⟩
abbrev main_v189 : Ref sig .tc := ⟨.hbm, 257, rfl⟩
abbrev main_v190 : Ref sig .tc := ⟨.hbm, 258, rfl⟩
abbrev main_c_59 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_c_60 : Ref sig .tc := ⟨.hbm, 263, rfl⟩
abbrev main_v194 : Ref sig .tc := ⟨.hbm, 264, rfl⟩
abbrev main_v195 : Ref sig .tc := ⟨.hbm, 265, rfl⟩
abbrev main_c_61 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_cst_62 : Ref sig .tc := ⟨.hbm, 270, rfl⟩
abbrev main_v199 : Ref sig .tc := ⟨.hbm, 271, rfl⟩
abbrev main_v200 : Ref sig .tc := ⟨.hbm, 272, rfl⟩
abbrev main_cst_63 : Ref sig .tc := ⟨.hbm, 273, rfl⟩
abbrev main_v201 : Ref sig .tc := ⟨.hbm, 274, rfl⟩
abbrev main_v202 : Ref sig .tc := ⟨.hbm, 275, rfl⟩
abbrev main_cst_64 : Ref sig .tc := ⟨.hbm, 276, rfl⟩
abbrev main_call1_v0 : Ref sig .tc := ⟨.hbm, 277, rfl⟩
abbrev main_call1_v1 : Ref sig .tc := ⟨.hbm, 278, rfl⟩
abbrev main_v203 : Ref sig .tc := ⟨.hbm, 279, rfl⟩
abbrev main_v204 : Ref sig .tc := ⟨.hbm, 280, rfl⟩
abbrev main_cst_65 : Ref sig .tc := ⟨.hbm, 281, rfl⟩
abbrev main_v205 : Ref sig .tc := ⟨.hbm, 282, rfl⟩
abbrev main_cst_66 : Ref sig .tc := ⟨.hbm, 283, rfl⟩
abbrev main_v206 : Ref sig .tc := ⟨.hbm, 284, rfl⟩
abbrev main_c_67 : Ref sig .tc := ⟨.hbm, 285, rfl⟩
abbrev main_c_68 : Ref sig .tc := ⟨.hbm, 286, rfl⟩
abbrev main_v207_0 : Ref sig .tc := ⟨.hbm, 287, rfl⟩
abbrev main_v207_1 : Ref sig .tc := ⟨.hbm, 288, rfl⟩
abbrev main_v207_2 : Ref sig .tc := ⟨.hbm, 289, rfl⟩
abbrev main_v207_3 : Ref sig .tc := ⟨.hbm, 290, rfl⟩
abbrev main_v207_4 : Ref sig .tc := ⟨.hbm, 291, rfl⟩
abbrev main_v207_5 : Ref sig .tc := ⟨.hbm, 292, rfl⟩
abbrev main_v207_6 : Ref sig .tc := ⟨.hbm, 293, rfl⟩
abbrev main_v207_7 : Ref sig .tc := ⟨.hbm, 294, rfl⟩
abbrev main_while0c_c_88 : Ref sig .tc := ⟨.hbm, 295, rfl⟩
abbrev main_while0c_v239 : Ref sig .tc := ⟨.hbm, 296, rfl⟩
abbrev main_while0b_c_88 : Ref sig .tc := ⟨.hbm, 297, rfl⟩
abbrev main_while0b_v239 : Ref sig .tc := ⟨.hbm, 298, rfl⟩
abbrev main_while0b_v240 : Ref sig .tc := ⟨.hbm, 299, rfl⟩
abbrev main_while0b_cst_89 : Ref sig .tc := ⟨.hbm, 300, rfl⟩
abbrev main_while0b_v241 : Ref sig .tc := ⟨.hbm, 301, rfl⟩
abbrev main_while0b_v242 : Ref sig .tc := ⟨.hbm, 302, rfl⟩
abbrev main_while0b_v243 : Ref sig .tc := ⟨.hbm, 303, rfl⟩
abbrev main_while0b_v244 : Ref sig .tc := ⟨.hbm, 304, rfl⟩
abbrev main_while0b_v245 : Ref sig .tc := ⟨.hbm, 305, rfl⟩
abbrev main_while0b_c_90 : Ref sig .tc := ⟨.hbm, 306, rfl⟩
abbrev main_while0b_call2_v0 : Ref sig .tc := ⟨.hbm, 307, rfl⟩
abbrev main_while0b_call2_v1 : Ref sig .tc := ⟨.hbm, 308, rfl⟩
abbrev main_while0b_v246 : Ref sig .tc := ⟨.hbm, 309, rfl⟩
abbrev main_while0b_c_91 : Ref sig .tc := ⟨.hbm, 310, rfl⟩
abbrev main_while0b_v247 : Ref sig .tc := ⟨.hbm, 311, rfl⟩
abbrev main_while0b_v248 : Ref sig .tc := ⟨.hbm, 312, rfl⟩
abbrev main_while0b_call3_c : Ref sig .tc := ⟨.hbm, 313, rfl⟩
abbrev main_while0b_call3_v0 : Ref sig .tc := ⟨.hbm, 314, rfl⟩
abbrev main_while0b_call3_v1 : Ref sig .tc := ⟨.hbm, 315, rfl⟩
abbrev main_while0b_call3_c_0 : Ref sig .tc := ⟨.hbm, 316, rfl⟩
abbrev main_while0b_call3_v2 : Ref sig .tc := ⟨.hbm, 317, rfl⟩
abbrev main_while0b_call3_v3 : Ref sig .tc := ⟨.hbm, 318, rfl⟩
abbrev main_while0b_call3_v4 : Ref sig .tc := ⟨.hbm, 319, rfl⟩
abbrev main_while0b_call3_c_1 : Ref sig .tc := ⟨.hbm, 320, rfl⟩
abbrev main_while0b_call3_c_2 : Ref sig .tc := ⟨.hbm, 321, rfl⟩
abbrev main_while0b_call3_v5 : Ref sig .tc := ⟨.hbm, 322, rfl⟩
abbrev main_while0b_call3_v6 : Ref sig .tc := ⟨.hbm, 323, rfl⟩
abbrev main_while0b_call3_v7 : Ref sig .tc := ⟨.hbm, 324, rfl⟩
abbrev main_while0b_call3_v8 : Ref sig .tc := ⟨.hbm, 325, rfl⟩
abbrev main_while0b_call3_v9 : Ref sig .tc := ⟨.hbm, 326, rfl⟩
abbrev main_while0b_call3_v10 : Ref sig .tc := ⟨.hbm, 327, rfl⟩
abbrev main_while0b_call3_c_3 : Ref sig .tc := ⟨.hbm, 328, rfl⟩
abbrev main_while0b_call3_v11 : Ref sig .tc := ⟨.hbm, 329, rfl⟩
abbrev main_while0b_call3_v12 : Ref sig .tc := ⟨.hbm, 330, rfl⟩
abbrev main_while0b_call3_v13 : Ref sig .tc := ⟨.hbm, 331, rfl⟩
abbrev main_while0b_call3_cst : Ref sig .tc := ⟨.hbm, 332, rfl⟩
abbrev main_while0b_call3_v14 : Ref sig .tc := ⟨.hbm, 333, rfl⟩
abbrev main_while0b_v249 : Ref sig .tc := ⟨.hbm, 334, rfl⟩
abbrev main_while0b_v250 : Ref sig .tc := ⟨.hbm, 335, rfl⟩
abbrev main_while0b_v251 : Ref sig .tc := ⟨.hbm, 336, rfl⟩
abbrev main_while0b_v252 : Ref sig .tc := ⟨.hbm, 337, rfl⟩
abbrev main_while0b_cst_92 : Ref sig .tc := ⟨.hbm, 338, rfl⟩
abbrev main_while0b_v253 : Ref sig .tc := ⟨.hbm, 339, rfl⟩
abbrev main_while0b_v254 : Ref sig .tc := ⟨.hbm, 340, rfl⟩
abbrev main_while0b_v255 : Ref sig .tc := ⟨.hbm, 341, rfl⟩
abbrev main_while0b_v256 : Ref sig .tc := ⟨.hbm, 342, rfl⟩
abbrev main_while0b_cst_93 : Ref sig .tc := ⟨.hbm, 343, rfl⟩
abbrev main_while0b_call4_v0 : Ref sig .tc := ⟨.hbm, 344, rfl⟩
abbrev main_while0b_call4_v1 : Ref sig .tc := ⟨.hbm, 345, rfl⟩
abbrev main_while0b_v257 : Ref sig .tc := ⟨.hbm, 346, rfl⟩
abbrev main_while0b_v258 : Ref sig .tc := ⟨.hbm, 347, rfl⟩
abbrev main_while0b_v259 : Ref sig .tc := ⟨.hbm, 348, rfl⟩
abbrev main_while0b_v260 : Ref sig .tc := ⟨.hbm, 349, rfl⟩
abbrev main_while0b_cst_94 : Ref sig .tc := ⟨.hbm, 350, rfl⟩
abbrev main_while0b_v261 : Ref sig .tc := ⟨.hbm, 351, rfl⟩
abbrev main_while0b_v262 : Ref sig .tc := ⟨.hbm, 352, rfl⟩
abbrev main_while0b_cst_95 : Ref sig .tc := ⟨.hbm, 353, rfl⟩
abbrev main_while0b_call5_v0 : Ref sig .tc := ⟨.hbm, 354, rfl⟩
abbrev main_while0b_call5_v1 : Ref sig .tc := ⟨.hbm, 355, rfl⟩
abbrev main_while0b_v263 : Ref sig .tc := ⟨.hbm, 356, rfl⟩
abbrev main_while0b_v264 : Ref sig .tc := ⟨.hbm, 357, rfl⟩
abbrev main_while0b_v265 : Ref sig .tc := ⟨.hbm, 358, rfl⟩
abbrev main_while0b_v266 : Ref sig .tc := ⟨.hbm, 359, rfl⟩
abbrev main_while0b_v267 : Ref sig .tc := ⟨.hbm, 360, rfl⟩
abbrev main_while0b_v268 : Ref sig .tc := ⟨.hbm, 361, rfl⟩
abbrev main_while0b_v269 : Ref sig .tc := ⟨.hbm, 362, rfl⟩
abbrev main_while0b_call6_v0 : Ref sig .tc := ⟨.hbm, 363, rfl⟩
abbrev main_while0b_v270 : Ref sig .tc := ⟨.hbm, 364, rfl⟩
abbrev main_while0b_v271 : Ref sig .tc := ⟨.hbm, 365, rfl⟩
abbrev main_while0b_call7_v0 : Ref sig .tc := ⟨.hbm, 366, rfl⟩
abbrev main_while0b_v272 : Ref sig .tc := ⟨.hbm, 367, rfl⟩
abbrev main_while0b_v273 : Ref sig .tc := ⟨.hbm, 368, rfl⟩
abbrev main_while0b_c_96 : Ref sig .tc := ⟨.hbm, 369, rfl⟩
abbrev main_while0b_v274 : Ref sig .tc := ⟨.hbm, 370, rfl⟩
abbrev main_v208 : Ref sig .tc := ⟨.hbm, 371, rfl⟩
abbrev main_c_69 : Ref sig .tc := ⟨.hbm, 372, rfl⟩
abbrev main_v209 : Ref sig .tc := ⟨.hbm, 373, rfl⟩
abbrev main_cst_70 : Ref sig .tc := ⟨.hbm, 374, rfl⟩
abbrev main_v210 : Ref sig .tc := ⟨.hbm, 375, rfl⟩
abbrev main_cst_71 : Ref sig .tc := ⟨.hbm, 376, rfl⟩
abbrev main_v211 : Ref sig .tc := ⟨.hbm, 377, rfl⟩
abbrev main_v212 : Ref sig .tc := ⟨.hbm, 378, rfl⟩
abbrev main_cst_72 : Ref sig .tc := ⟨.hbm, 379, rfl⟩
abbrev main_v213 : Ref sig .tc := ⟨.hbm, 380, rfl⟩
abbrev main_v214 : Ref sig .tc := ⟨.hbm, 381, rfl⟩
abbrev main_v215 : Ref sig .tc := ⟨.hbm, 382, rfl⟩
abbrev main_cst_73 : Ref sig .tc := ⟨.hbm, 383, rfl⟩
abbrev main_v216 : Ref sig .tc := ⟨.hbm, 384, rfl⟩
abbrev main_cst_74 : Ref sig .tc := ⟨.hbm, 385, rfl⟩
abbrev main_v217 : Ref sig .tc := ⟨.hbm, 386, rfl⟩
abbrev main_v218 : Ref sig .tc := ⟨.hbm, 387, rfl⟩
abbrev main_cst_75 : Ref sig .tc := ⟨.hbm, 388, rfl⟩
abbrev main_v219 : Ref sig .tc := ⟨.hbm, 389, rfl⟩
abbrev main_v220 : Ref sig .tc := ⟨.hbm, 390, rfl⟩
abbrev main_v221 : Ref sig .tc := ⟨.hbm, 391, rfl⟩
abbrev main_cst_76 : Ref sig .tc := ⟨.hbm, 392, rfl⟩
abbrev main_v222 : Ref sig .tc := ⟨.hbm, 393, rfl⟩
abbrev main_cst_77 : Ref sig .tc := ⟨.hbm, 394, rfl⟩
abbrev main_v223 : Ref sig .tc := ⟨.hbm, 395, rfl⟩
abbrev main_v224 : Ref sig .tc := ⟨.hbm, 396, rfl⟩
abbrev main_v225 : Ref sig .tc := ⟨.hbm, 397, rfl⟩
abbrev main_v226 : Ref sig .tc := ⟨.hbm, 398, rfl⟩
abbrev main_cst_78 : Ref sig .tc := ⟨.hbm, 399, rfl⟩
abbrev main_v227 : Ref sig .tc := ⟨.hbm, 400, rfl⟩
abbrev main_v228 : Ref sig .tc := ⟨.hbm, 401, rfl⟩
abbrev main_cst_79 : Ref sig .tc := ⟨.hbm, 402, rfl⟩
abbrev main_call8_v0 : Ref sig .tc := ⟨.hbm, 403, rfl⟩
abbrev main_call8_v1 : Ref sig .tc := ⟨.hbm, 404, rfl⟩
abbrev main_v229 : Ref sig .tc := ⟨.hbm, 405, rfl⟩
abbrev main_v230 : Ref sig .tc := ⟨.hbm, 406, rfl⟩
abbrev main_v231 : Ref sig .tc := ⟨.hbm, 407, rfl⟩
abbrev main_v232 : Ref sig .tc := ⟨.hbm, 408, rfl⟩
abbrev main_v233 : Ref sig .tc := ⟨.hbm, 409, rfl⟩
abbrev main_v234 : Ref sig .tc := ⟨.hbm, 410, rfl⟩
abbrev main_v235 : Ref sig .tc := ⟨.hbm, 411, rfl⟩
abbrev main_v236 : Ref sig .tc := ⟨.hbm, 412, rfl⟩
abbrev main_v237 : Ref sig .tc := ⟨.hbm, 413, rfl⟩
abbrev main_cst_80 : Ref sig .tc := ⟨.hbm, 414, rfl⟩
abbrev main_call9_v0 : Ref sig .tc := ⟨.hbm, 415, rfl⟩
abbrev main_call9_v1 : Ref sig .tc := ⟨.hbm, 416, rfl⟩
abbrev main_call9_v2 : Ref sig .tc := ⟨.hbm, 417, rfl⟩
abbrev main_v238 : Ref sig .tc := ⟨.hbm, 418, rfl⟩

abbrev nD : Nat := 1
abbrev τ : Topo := Topo.v7x

variable {F : FTy → Type} [FloatOps F]

abbrev main_while0_count : Scf.Loop 32 := ⟨0#32, 16#32, 1#32⟩
-- ==== Proof.FirstMax.lean ====
/- The index both programs choose: the least position at which a row of extended reals attains its maximum. -/
module

public import Idealize.ShloMosaic.Lib.ValueIdx
public import Idealize.ShloMosaic.Lib.SortNet.Extract

@[expose] public section

noncomputable section

namespace Cert.Slots

open Idealize.ShloMosaic Idealize.ShloMosaic.ValueIdx

/-- The maximum of a row, folded from minus infinity. -/
def rowMax (v : Fin 1024 → EReal) : EReal := (Finset.univ : Finset (Fin 1024)).fold max ⊥ v

/-- The least position holding the row's maximum, as a 32-bit word: positions not holding it count as 1024. -/
def firstMax (v : Fin 1024 → EReal) : BitVec 32 :=
  (Finset.univ : Finset (Fin 1024)).fold IntOp.minsi 2147483647#32
    (fun p => if v p = rowMax v then BitVec.ofNat 32 p.val else 1024#32)

theorem le_rowMax (v : Fin 1024 → EReal) (p : Fin 1024) : v p ≤ rowMax v :=
  (Finset.le_fold_max (v p)).mpr (Or.inr ⟨p, Finset.mem_univ _, le_rfl⟩)

theorem rowMax_mem (v : Fin 1024 → EReal) : ∃ p, v p = rowMax v := by
  obtain ⟨p, -, hp⟩ := Finset.exists_max_image (Finset.univ : Finset (Fin 1024)) v ⟨0, Finset.mem_univ _⟩
  exact ⟨p, le_antisymm (le_rowMax v p)
    ((Finset.fold_max_le (v p)).mpr ⟨bot_le, fun q hq => hp q hq⟩)⟩

theorem eq_rowMax_iff (v : Fin 1024 → EReal) (p : Fin 1024) : v p = rowMax v ↔ ∀ q, v q ≤ v p :=
  ⟨fun h q => h ▸ le_rowMax v q, fun h => by
    obtain ⟨q, hq⟩ := rowMax_mem v
    exact le_antisymm (le_rowMax v p) (hq ▸ h q)⟩

/-- Rows ordered the same way have the same first maximum. -/
theorem firstMax_congr {v w : Fin 1024 → EReal} (h : ∀ p q, v p ≤ v q ↔ w p ≤ w q) : firstMax v = firstMax w := by
  unfold firstMax
  congr 1; funext p
  have : (v p = rowMax v) = (w p = rowMax w) := by
    rw [eq_rowMax_iff, eq_rowMax_iff]; exact propext (forall_congr' fun q => h q p)
  simp only [this]

/-- A fold of the signed minimum is at most each of its words and at most its start. -/
theorem toInt_fold_minsi_le {ι : Type} [DecidableEq ι] (s : Finset ι) (f : ι → BitVec 32) (z : BitVec 32) :
    ∀ p ∈ s, (s.fold IntOp.minsi z f).toInt ≤ (f p).toInt := by
  induction s using Finset.induction_on with
  | empty => intro p hp; exact absurd hp (Finset.notMem_empty _)
  | insert a s ha ih =>
    intro p hp
    rw [Finset.fold_insert ha, SortNet.toInt_minsi]
    rcases Finset.mem_insert.mp hp with rfl | hp
    · exact min_le_left _ _
    · exact le_trans (min_le_right _ _) (ih p hp)

theorem fold_minsi_mem {ι : Type} [DecidableEq ι] (s : Finset ι) (f : ι → BitVec 32) (z : BitVec 32) :
    s.fold IntOp.minsi z f = z ∨ ∃ p ∈ s, s.fold IntOp.minsi z f = f p := by
  induction s using Finset.induction_on with
  | empty => exact Or.inl rfl
  | insert a s ha ih =>
    rw [Finset.fold_insert ha]
    by_cases h : (f a).slt (s.fold IntOp.minsi z f) = true
    · exact Or.inr ⟨a, Finset.mem_insert_self _ _, by simp only [IntOp.minsi, h, if_true]⟩
    · have e : IntOp.minsi (f a) (s.fold IntOp.minsi z f) = s.fold IntOp.minsi z f := by
        simp only [IntOp.minsi, h]; rfl
      rw [e]
      rcases ih with ih | ⟨p, hp, ih⟩
      · exact Or.inl ih
      · exact Or.inr ⟨p, Finset.mem_insert_of_mem hp, ih⟩

/-- The first maximum is a position of the row. -/
theorem firstMax_lt (v : Fin 1024 → EReal) : ∃ p : Fin 1024, firstMax v = BitVec.ofNat 32 p.val := by
  obtain ⟨q, hq⟩ := rowMax_mem v
  have hle := toInt_fold_minsi_le Finset.univ
    (fun p : Fin 1024 => if v p = rowMax v then BitVec.ofNat 32 p.val else 1024#32) 2147483647#32 q (Finset.mem_univ _)
  have small : ∀ p : Fin 1024, (BitVec.ofNat 32 p.val).toInt = p.val := fun p => by
    have h1 : (BitVec.ofNat 32 p.val).toNat = p.val := by
      rw [BitVec.toNat_ofNat]; exact Nat.mod_eq_of_lt (by have := p.isLt; omega)
    rw [BitVec.toInt_eq_toNat_cond, h1]; have := p.isLt; split <;> omega
  simp only [hq, if_true, small] at hle
  have hq' := q.isLt
  change (firstMax v).toInt ≤ _ at hle
  rcases fold_minsi_mem Finset.univ
    (fun p : Fin 1024 => if v p = rowMax v then BitVec.ofNat 32 p.val else 1024#32) 2147483647#32 with h | ⟨p, -, h⟩
  · change firstMax v = _ at h
    rw [h] at hle
    have : (2147483647#32).toInt = 2147483647 := by decide
    omega
  · change firstMax v = _ at h
    by_cases hp : v p = rowMax v
    · exact ⟨p, by rw [h, if_pos hp]⟩
    · rw [if_neg hp] at h
      rw [h] at hle
      have : (1024#32).toInt = 1024 := by decide
      omega

theorem firstMax_toNat_lt (v : Fin 1024 → EReal) : (firstMax v).toNat < 1024 := by
  obtain ⟨p, hp⟩ := firstMax_lt v
  rw [hp, BitVec.toNat_ofNat]; have := p.isLt; omega

end Cert.Slots

end
-- ==== Proof.Pick.lean ====
/- The kernel's chosen indices, read at the extended reals. -/
module

public import proofs.«01_k».proof.Proof.FirstMax
public import proofs.«01_k».proof.Proof.Gen.KernelIdeal
public import Idealize.ShloMosaic.Lib.Pipeline.Value
public import Idealize.ShloMosaic.PureOps.Ideal.Laws
public import Idealize.ShloMosaic.Lib.Pointwise.ShapeOpsCore

@[expose] public section

noncomputable section

namespace Cert.KernelIdeal.Slots

open Idealize.ShloMosaic
open Idealize.ShloMosaic.ValueIdx hiding ix1 ix2
open Cert.KernelIdeal Cert.KernelIdeal.Gen Cert.Slots

/-- The four rows' chosen positions: the least column whose score equals its row's maximum. -/
def pick (x : FVec Ideal S4x1024 .f32) : IVec S4 32 :=
  multiReductionI .minsi [1] S4
    (select (cmpf .oeq x (broadcastTo S4x1024 (shapeCast S4x1
      (multiReduction .maximumf [1] S4 x 0xFF800000#32 reduces_S4x1024_S4 (.inl rfl) rfl) shapeCasts_S4_S4x1) broadcasts_S4x1_S4x1024))
      (iota .tc S4x1024 32 [1] iota_S4x1024_d1_w32) (broadcast S4x1024 1024#32))
    2147483647#32 reduces_S4x1024_S4 rfl

theorem lift_S4x1024 (b : Fin 4) (p : Fin 1024) : reduces_S4x1024_S4.lift (ix1 b) p = ix2 b p := by
  funext a; match a with
  | ⟨0, _⟩ => rfl
  | ⟨1, _⟩ => rfl

theorem ofBits_negInf : (FloatOps.ofBits .f32 0xFF800000#32 : Ideal .f32) = (⊥ : EReal) := by
  simp [FloatOps.ofBits, Ideal.ofBits, Ideal.ieee]

/-- A column of four values laid along the rows. -/
theorem column_apply {α : Type} (y : S4.Idx → α) (b : Fin 4) (p : Fin 1024) :
    broadcastTo S4x1024 (shapeCast S4x1 y shapeCasts_S4_S4x1) broadcasts_S4x1_S4x1024 (ix2 b p) = y (ix1 b) := by
  refine (broadcastTo_apply _ _ _ (ix2 b (0 : Fin 1)) (fun a => ?_)).trans
    (shapeCast_apply _ _ _ (ix1 b) ?_)
  · match a with
    | ⟨0, _⟩ => rfl
    | ⟨1, _⟩ => rfl
  · rw [Shape.rowMajor_val_two, Shape.rowMajor_val_one]
    simp

theorem rowMax_apply (x : FVec Ideal S4x1024 .f32) (b : Fin 4) :
    multiReduction .maximumf [1] S4 x 0xFF800000#32 reduces_S4x1024_S4 (.inl rfl) rfl (ix1 b) = rowMax (fun p => x (ix2 b p)) := by
  refine (Ideal.multiReduction_maximumf_single x 0xFF800000#32 reduces_S4x1024_S4 (.inl rfl) rfl (ix1 b)).trans ?_
  unfold rowMax
  rw [ofBits_negInf]
  exact Finset.fold_congr fun p _ => congrArg x (lift_S4x1024 b p)

theorem pick_apply (x : FVec Ideal S4x1024 .f32) (b : Fin 4) : pick x (ix1 b) = firstMax (fun p => x (ix2 b p)) := by
  unfold pick firstMax
  refine (multiReductionI_eq_fold _ _ _ _ rfl _).trans ?_
  refine (Shape.Reduces.fold_filter_drop_single reduces_S4x1024_S4 IntOp.minsi _ _ _).trans ?_
  refine Finset.fold_congr fun p _ => ?_
  rw [Function.comp_apply]
  refine (congrArg _ (lift_S4x1024 b p)).trans ?_
  rw [select_apply, cmpf_apply]
  refine (congrArg (fun y => Scalar.select (FloatOps.cmpf .oeq (x (ix2 b p)) y) _ _)
    ((column_apply _ b p).trans (rowMax_apply x b))).trans ?_
  have hi : iota .tc S4x1024 32 [1] iota_S4x1024_d1_w32 (ix2 b p) = BitVec.ofNat 32 p.val :=
    (iota_apply ..).trans (by simp [ix2])
  rw [Ideal.cmpf_def, hi]
  by_cases hp : x (ix2 b p) = rowMax (fun p => x (ix2 b p))
  · rw [if_pos hp]; simp [Ideal.cmp, Scalar.select, ← hp]
  · rw [if_neg hp]; simp [Ideal.cmp, Scalar.select, hp]; rfl

theorem pick_lt (x : FVec Ideal S4x1024 .f32) (b : Fin 4) : (pick x (ix1 b)).toNat < 1024 := by
  rw [pick_apply]; exact firstMax_toNat_lt _

end Cert.KernelIdeal.Slots

end
-- ==== Proof.KernelRun.lean ====
/- The kernel's body, run once on any staging buffers. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Pick

@[expose] public section

noncomputable section

namespace Cert.KernelIdeal.Slots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- A chosen position names a row inside a 1024 by 1024 buffer. -/
theorem pick_row_ok (x : FVec Ideal S4x1024 .f32) (o : Fin S4.rank → Nat) (h : S4.Slices o S1)
    (h0 : ∀ a : Fin S1.rank, (![0] : Fin 1 → Nat) a < S1.size a) :
    ∀ a, (![(Scalar.indexCast (extractAt ![0] (extractStridedSlice S1 o (pick x) h) h0)).toNat, 0] : Fin 2 → Nat) a
      + S1x1024.size a ≤ S1024x1024.size a := by
  intro a
  have hp : (extractAt ![0] (extractStridedSlice S1 o (pick x) h) h0).toNat < 1024 := by
    have hall : ∀ j : S4.Idx, (pick x j).toNat < 1024 := fun j => by
      have hj : j = ix1 (j 0) := by funext a; match a with | ⟨0, _⟩ => rfl
      rw [hj]; exact pick_lt x _
    exact hall _
  match a with
  | ⟨0, _⟩ => exact Nat.succ_le_of_lt hp
  | ⟨1, _⟩ => exact Nat.le_refl _

set_option maxHeartbeats 400000 in
/-- The kernel's body, run once on whole buffers: the inputs hold `f1`…`f6`, the output and the six scratch buffers
    anything. The inputs come back as they were, and the output block is the value kept in the first component. -/
def kernelRun (c : Dev nD) (i : grid0.Coords)
    (arg1 : Memref sig .tc .vmem S4x1024x384 .f32) (harg1 : arg1.IsWhole) (arg2 : Memref sig .tc .vmem S384x384 .f32) (harg2 : arg2.IsWhole)
    (arg3 : Memref sig .tc .vmem S1x384 .f32) (harg3 : arg3.IsWhole) (arg4 : Memref sig .tc .vmem S256x384 .f32) (harg4 : arg4.IsWhole)
    (arg5 : Memref sig .tc .vmem S1x256 .f32) (harg5 : arg5.IsWhole) (arg6 : Memref sig .tc .vmem S4x1x1024 .f32) (harg6 : arg6.IsWhole)
    (arg7 : Memref sig .tc .vmem S4x16x256 .f32) (harg7 : arg7.IsWhole)
    (arg8 : Memref sig .tc .vmem S1024x1024 .f32) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1024 .f32) (harg11 : arg11.IsWhole)
    (arg12 : Memref sig .tc .vmem S2x16x1024 .f32) (harg12 : arg12.IsWhole) (arg13 : Memref sig .tc .vmem S2x16x1024 .f32) (harg13 : arg13.IsWhole)
    (f1 : Buf (Elt Ideal) (arg1.view.loc (c : Thread nD τ))) (f2 : Buf (Elt Ideal) (arg2.view.loc (c : Thread nD τ)))
    (f3 : Buf (Elt Ideal) (arg3.view.loc (c : Thread nD τ))) (f4 : Buf (Elt Ideal) (arg4.view.loc (c : Thread nD τ)))
    (f5 : Buf (Elt Ideal) (arg5.view.loc (c : Thread nD τ))) (f6 : Buf (Elt Ideal) (arg6.view.loc (c : Thread nD τ))) :
    { L : List (View.Piece (Elt Ideal) S4x16x256 .f32) // ∀ K : PUnit → sProp 𝕄,
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (arg6.view.loc (c : Thread nD τ) ↦[arg6.view.set]{fullShare} f6)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d)
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (arg4.view.loc (c : Thread nD τ) ↦[arg4.view.set]{fullShare} f4)
            ∗ (arg5.view.loc (c : Thread nD τ) ↦[arg5.view.set]{fullShare} f5) ∗ (arg6.view.loc (c : Thread nD τ) ↦[arg6.view.set]{fullShare} f6)
            ∗ (arg7.view.loc (c : Thread nD τ) ↦[arg7.view.set]{fullShare} arg7.view.writes (Elt Ideal) arg7.view.junk L)
            ∗ (∃ d, owns (c : Thread nD τ) arg8 fullShare d) ∗ (∃ d, owns (c : Thread nD τ) arg9 fullShare d)
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)) -∗ K ⟨⟩))
      ⊢ wp frame (wpE (defs₀ (F := Ideal)) Variants.none c none) Set.univ
          (cc0__sb_kernel i arg1 harg1 arg2 harg2 arg3 harg3 arg4 harg4 arg5 harg5 arg6 harg6 arg7 harg7
            arg8 harg8 arg9 harg9 arg10 harg10 arg11 harg11 arg12 harg12 arg13 harg13) K } := by
  refine ⟨?L, fun K => ?run⟩
  rotate_left
  simp only [cc0__sb_kernel_eq_skeleton]; unfold cc0__sb_kernel_skel
  unfold owns
  iintro ⟨H1, H2, H3, H4, H5, H6, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  set_option sl_exec.resultNames true in
  sl_exec_parts! (disch := (refine pick_row_ok _ _ ?_ inpos_S1_p0; first | exact slices_S4_o0_S1 | exact slices_S4_o1_S1 | exact slices_S4_o2_S1 | exact slices_S4_o3_S1))
  sl_step
  iapply Hk
  case L => exact kernelRun.sl.H7_4 c arg1 arg2 arg3 arg4 arg5 arg6 arg8 arg9 arg10 arg11 arg12 arg13 f1 f2 f3 f4 f5 f6
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.KernelIdeal.Slots

end
-- ==== Proof.Spec.lean ====
/- What the kernel's body computes, slot by slot. -/
module

public import proofs.«01_k».proof.Proof.KernelRun
public import Idealize.ShloMosaic.Lib.Pipeline.Value
public import Idealize.ShloMosaic.Lib.Pipeline.FrameBody

@[expose] public section

noncomputable section

namespace Cert.KernelIdeal.Slots

open Cert.KernelIdeal Cert.KernelIdeal.Gen
open Idealize.ShloMosaic Idealize.ShloMosaic.TcCoe
open Idealize.ShloMosaic.ValueIdx hiding ix1 ix2 ix3

/-! ## The slots -/

/-- Batch `b`'s chosen position. -/
def pos (x : FVec Ideal S4x1024 .f32) (b : Fin 4) : Fin 1024 := ⟨(pick x (ix1 b)).toNat, pick_lt x b⟩

/-- The row of a Gram matrix at batch `b`'s chosen position. -/
def rowAt (G : FVec Ideal S1024x1024 .f32) (x : FVec Ideal S4x1024 .f32) (b : Fin 4) : FVec Ideal S1x1024 .f32 :=
  fun j => G (ix2 (pos x b) (j 1))

/-- The four batches' alphas from the four loaded rows. -/
def alphaOf (r0 r1 r2 r3 : FVec Ideal S1x1024 .f32) : FVec Ideal S4x1024 .f32 := k0_pay28 r0 r1 r2 r3

/-- The alphas of one slot from the scopes and the seeds. -/
def alphaAt (G : Fin 4 → FVec Ideal S1024x1024 .f32) (seeds e : FVec Ideal S4x1024 .f32) : FVec Ideal S4x1024 .f32 :=
  alphaOf (rowAt (G 0) (mulf e seeds) 0) (rowAt (G 1) (mulf e seeds) 1)
    (rowAt (G 2) (mulf e seeds) 2) (rowAt (G 3) (mulf e seeds) 3)

/-- The scopes at the start of slot `k`. -/
def scope (G : Fin 4 → FVec Ideal S1024x1024 .f32) (seeds : FVec Ideal S4x1024 .f32) : ℕ → FVec Ideal S4x1024 .f32
  | 0 => k0_pay20
  | k + 1 => k0_pay35 (scope G seeds k) (alphaAt G seeds (scope G seeds k))

/-- The masks of slot `k`. -/
def maskAt (G : Fin 4 → FVec Ideal S1024x1024 .f32) (seeds : FVec Ideal S4x1024 .f32) (k : ℕ) : FVec Ideal S4x1024 .f32 :=
  mulf (scope G seeds k) (alphaAt G seeds (scope G seeds k))

/-- One batch's result block from its features, the output weights and bias and its sixteen masks. -/
def poolOf (fb : FVec Ideal S1024x384 .bf16) (ow : FVec Ideal S256x384 .bf16) (M : FVec Ideal S1x16x1024 .f32)
    (ob : FVec Ideal S1x256 .f32) : FVec Ideal S1x16x256 .f32 :=
  let m : FVec Ideal S16x1024 .f32 := shapeCast S16x1024 M shapeCasts_S1x16x1024_S16x1024
  let s : FVec Ideal S16x384 .f32 :=
    matmul dot_S16x1024_S1024x384_S16x384_1_0_0_1_n_n none (truncf .bf16 m bitsLt_bf16_f32) fb (constant S16x384 .f32 0x00000000#32)
  let n : FVec Ideal S16x1 .f32 :=
    shapeCast S16x1 (multiReduction .add [1] S16 m 0x00000000#32 reduces_S16x1024_S16 (.inl rfl) rfl) shapeCasts_S16_S16x1
  let d : FVec Ideal S16x384 .f32 :=
    divf s (broadcastTo S16x384 (maximumf n (broadcast S16x1 (Scalar.ofBits .f32 0x322BCC77#32))) broadcasts_S16x1_S16x384)
  let r : FVec Ideal S16x256 .f32 :=
    matmul dot_S16x384_S256x384_S16x256_1_1_0_0_n_n none (truncf .bf16 d bitsLt_bf16_f32) ow (constant S16x256 .f32 0x00000000#32)
  shapeCast S1x16x256 (addf r (broadcastTo S16x256 (shapeCast S1x256 ob shapeCasts_S1x256_S1x256) broadcasts_S1x256_S16x256))
    shapeCasts_S16x256_S1x16x256

/-- The four batches' features, Gram matrices and masks. -/
def featOf (x1 : FVec Ideal S4x1024x384 .f32) : Fin 4 → FVec Ideal S1024x384 .bf16 :=
  ![extractStridedSlice S1024x384 ![0, 0] (k0_pay3 x1) slices_S2048x384_o0_0_S1024x384,
    extractStridedSlice S1024x384 ![1024, 0] (k0_pay3 x1) slices_S2048x384_o1024_0_S1024x384,
    extractStridedSlice S1024x384 ![0, 0] (k0_pay11 x1) slices_S2048x384_o0_0_S1024x384,
    extractStridedSlice S1024x384 ![1024, 0] (k0_pay11 x1) slices_S2048x384_o1024_0_S1024x384]

def gramOf (x1 : FVec Ideal S4x1024x384 .f32) (x2 : FVec Ideal S384x384 .f32) (x3 : FVec Ideal S1x384 .f32) :
    Fin 4 → FVec Ideal S1024x1024 .f32 :=
  ![k0_pay9 x2 x1 x3, k0_pay10 x2 x1 x3, k0_pay17 (k0_pay2 x2) x1 x3, k0_pay18 (k0_pay2 x2) x1 x3]

def batchMasks (M : ℕ → FVec Ideal S4x1024 .f32) (b : Fin 4) : FVec Ideal S1x16x1024 .f32 := fun j => M (j 1).val (ix2 b (j 2))

/-- The output block from the six input blocks. -/
def outBlock (x1 : FVec Ideal S4x1024x384 .f32) (x2 : FVec Ideal S384x384 .f32) (x3 : FVec Ideal S1x384 .f32)
    (x4 : FVec Ideal S256x384 .f32) (x5 : FVec Ideal S1x256 .f32) (x6 : FVec Ideal S4x1x1024 .f32) : FVec Ideal S4x16x256 .f32 :=
  fun y => poolOf (featOf x1 (y 0)) (k0_pay232 x4) (batchMasks (maskAt (gramOf x1 x2 x3) (k0_pay19 x6)) (y 0)) x5 (ix3 (0 : Fin 1) (y 1) (y 2))

/-- The two mask buffers' pieces from the slots' masks, last first: rows `o` and `o + 1` of each slot. -/
def pieces (lo hi : Fin S4x1024.rank → Nat) (hlo : S4x1024.Slices lo S1x1024) (hhi : S4x1024.Slices hi S1x1024)
    (M : ℕ → FVec Ideal S4x1024 .f32) : (n : ℕ) → n ≤ 16 → List (View.Piece (Elt Ideal) S2x16x1024 .f32)
  | 0, _ => []
  | n + 1, hn =>
    ⟨Rect.unit (s := S2x16x1024) ![1, n, 0] S1x1x1024.size (by
        intro a; match a with
        | ⟨0, _⟩ => exact Nat.le_refl _
        | ⟨1, _⟩ => exact hn
        | ⟨2, _⟩ => exact Nat.le_refl _),
      shapeCast S1x1x1024 (extractStridedSlice S1x1024 hi (M n) hhi) shapeCasts_S1x1024_S1x1x1024⟩
    :: ⟨Rect.unit (s := S2x16x1024) ![0, n, 0] S1x1x1024.size (by
        intro a; match a with
        | ⟨0, _⟩ => exact Nat.le_succ _
        | ⟨1, _⟩ => exact hn
        | ⟨2, _⟩ => exact Nat.le_refl _),
      shapeCast S1x1x1024 (extractStridedSlice S1x1024 lo (M n) hlo) shapeCasts_S1x1024_S1x1x1024⟩
    :: pieces lo hi hlo hhi M n (Nat.le_of_succ_le hn)

theorem pieces_congr (lo hi : Fin S4x1024.rank → Nat) (hlo : S4x1024.Slices lo S1x1024) (hhi : S4x1024.Slices hi S1x1024)
    (M M' : ℕ → FVec Ideal S4x1024 .f32) : (n : ℕ) → (hn : n ≤ 16) → (h : ∀ k < n, M k = M' k) →
    pieces lo hi hlo hhi M n hn = pieces lo hi hlo hhi M' n hn
  | 0, _, _ => rfl
  | n + 1, hn, h => by
    have e := h n (Nat.lt_succ_self n)
    have ih := pieces_congr lo hi hlo hhi M M' n (Nat.le_of_succ_le hn) fun k hk => h k (Nat.lt_succ_of_lt hk)
    simp only [pieces, e, ih]

/-- Pieces that each agree with `g` and together cover an index give `g` there. -/
theorem canon_of_agree {s : Shape} {e : EltTy} (g : s.Idx → Elt Ideal e) (y : s.Idx) :
    ∀ L : List (View.Piece (Elt Ideal) s e), (∀ p ∈ L, ∀ j, p.2 j = g (p.1.emb j)) → (∃ p ∈ L, y ∈ p.1.set) → View.canon L y = g y
  | [], _, h => by obtain ⟨_, hm, _⟩ := h; exact absurd hm List.not_mem_nil
  | p :: L, hL, h => by
    by_cases hy : y ∈ p.1.set
    · have hp := hL p List.mem_cons_self
      obtain ⟨r, w⟩ := p
      obtain ⟨x, rfl⟩ : ∃ x, r.emb x = y := r.exists_idx_of_mem hy
      rw [View.canon_cons_emb]; exact hp x
    · obtain ⟨p', hm, hy'⟩ := h
      rcases List.mem_cons.mp hm with rfl | hm
      · exact absurd hy' hy
      · rw [View.canon_cons_of_not_mem p L hy]
        exact canon_of_agree g y L (fun q hq => hL q (List.mem_cons_of_mem _ hq)) ⟨p', hm, hy'⟩

theorem extract_pick (x : FVec Ideal S4x1024 .f32) (b : Fin 4) (o : Fin S4.rank → Nat) (h : S4.Slices o S1) (ho : o 0 = b) :
    extractAt ![0] (extractStridedSlice S1 o (pick x) h) inpos_S1_p0 = pick x (ix1 b) := by
  refine congrArg (pick x) ?_
  funext a
  match a with
  | ⟨0, _⟩ => exact Fin.ext (by simpa using ho)

theorem pos_word (x : FVec Ideal S4x1024 .f32) (b : Fin 4) (o : Fin S4.rank → Nat) (h : S4.Slices o S1) (ho : o 0 = b) :
    (Scalar.indexCast (extractAt ![0] (extractStridedSlice S1 o (pick x) h) inpos_S1_p0)).toNat = (pos x b).val := by
  have e := congrArg BitVec.toNat (extract_pick x b o h ho)
  exact e

theorem canon_whole {s : Shape} {e : EltTy} (off : Fin s.rank → Nat) (h0 : ∀ a, off a + s.size a ≤ s.size a)
    (G : s.Idx → Elt Ideal e) (y : s.Idx) :
    View.canon [(⟨Rect.unit (s := s) off s.size h0, G⟩ : View.Piece (Elt Ideal) s e)] y = G y := by
  have hy : (Rect.unit (s := s) off s.size h0).emb y = y := by
    funext a; apply Fin.ext
    have h := h0 a
    exact (show off a + 1 * (y a).val = (y a).val by omega)
  have h := View.canon_cons_emb (Val := Elt Ideal) (e := e) (Rect.unit (s := s) off s.size h0) G [] y
  rw [hy] at h
  exact h

theorem readAt_whole {s : Shape} {e : EltTy} (v : View sig .tc .vmem s e) (off : Fin s.rank → Nat)
    (h0 : ∀ a, off a + s.size a ≤ s.size a) (G : s.Idx → Elt Ideal e) (r : LoadRect s) (j : r.shape.Idx) :
    v.readAt (Elt Ideal) r (v.writes (Elt Ideal) v.junk [⟨Rect.unit (s := s) off s.size h0, G⟩]) j = G (r.idx j) := by
  rw [View.readAt_writes_junk_eq_canon]
  exact canon_whole off h0 G _

theorem row_idx (w : Nat) (hw : ∀ a, (![w, 0] : Fin 2 → Nat) a + S1x1024.size a ≤ S1024x1024.size a) (q : Fin 1024) (h : w = q.val)
    (j : S1x1024.Idx) : (Rect.unit (s := S1024x1024) ![w, 0] S1x1024.size hw).toLoadRect.idx j = ix2 q (j 1) := by
  have hj : (j 0).val = 0 := Nat.lt_one_iff.mp (j 0).isLt
  funext a; apply Fin.ext
  match a with
  | ⟨0, _⟩ => exact (show w + 1 * (j 0).val = q.val by omega)
  | ⟨1, _⟩ => exact (show 0 + 1 * (j 1).val = (j 1).val by omega)

theorem row_read (v : View sig .tc .vmem S1024x1024 .f32) (G : FVec Ideal S1024x1024 .f32)
    (h0 : ∀ a : Fin S1024x1024.rank, (![0, 0] : Fin 2 → Nat) a + S1024x1024.size a ≤ S1024x1024.size a)
    (w : Nat) (hw : ∀ a, (![w, 0] : Fin 2 → Nat) a + S1x1024.size a ≤ S1024x1024.size a)
    (b : Fin 4) (x : FVec Ideal S4x1024 .f32) (h : w = (pos x b).val) :
    v.readAt (Elt Ideal) (Rect.unit (s := S1024x1024) ![w, 0] S1x1024.size hw).toLoadRect
      (v.writes (Elt Ideal) v.junk [⟨Rect.unit (s := S1024x1024) ![0, 0] S1024x1024.size h0, G⟩]) = rowAt G x b := by
  funext j
  exact (readAt_whole v _ h0 G _ j).trans (congrArg G (row_idx w hw (pos x b) h j))

end Cert.KernelIdeal.Slots

end
-- ==== Proof.KernelValue.lean ====
/- The run of the kernel's body computes the slots. -/
module

public import proofs.«01_k».proof.Proof.Spec
public import Idealize.ShloMosaic.Lib.Pipeline.Value
public import Idealize.ShloMosaic.Lib.Pipeline.FrameBody

@[expose] public section

noncomputable section

namespace Cert.KernelIdeal.Slots

open Cert.KernelIdeal Cert.KernelIdeal.Gen
open Idealize.ShloMosaic Idealize.ShloMosaic.TcCoe
open Idealize.ShloMosaic.ValueIdx hiding ix1 ix2 ix3

/-! ## The run -/

section Run
variable (c : Dev nD)
  (arg1 : Memref sig .tc .vmem S4x1024x384 .f32) (arg2 : Memref sig .tc .vmem S384x384 .f32) (arg3 : Memref sig .tc .vmem S1x384 .f32)
  (arg4 : Memref sig .tc .vmem S256x384 .f32) (arg5 : Memref sig .tc .vmem S1x256 .f32) (arg6 : Memref sig .tc .vmem S4x1x1024 .f32)
  (arg7 : Memref sig .tc .vmem S4x16x256 .f32) (arg8 : Memref sig .tc .vmem S1024x1024 .f32) (arg9 : Memref sig .tc .vmem S1024x1024 .f32)
  (arg10 : Memref sig .tc .vmem S1024x1024 .f32) (arg11 : Memref sig .tc .vmem S1024x1024 .f32)
  (arg12 : Memref sig .tc .vmem S2x16x1024 .f32) (arg13 : Memref sig .tc .vmem S2x16x1024 .f32)
  (f1 : Buf (Elt Ideal) (arg1.view.loc (c : Thread nD τ))) (f2 : Buf (Elt Ideal) (arg2.view.loc (c : Thread nD τ)))
  (f3 : Buf (Elt Ideal) (arg3.view.loc (c : Thread nD τ))) (f4 : Buf (Elt Ideal) (arg4.view.loc (c : Thread nD τ)))
  (f5 : Buf (Elt Ideal) (arg5.view.loc (c : Thread nD τ))) (f6 : Buf (Elt Ideal) (arg6.view.loc (c : Thread nD τ)))

/-- The scopes at the start of the sixteen slots, as the run names them. -/
def scopeV : Fin 16 → FVec Ideal S4x1024 .f32 :=
  ![k0_pay20,
    kernelRun.sl.v132 c arg1 arg2 arg3 arg6 arg8 arg9 arg10 arg11 f1 f2 f3 f6,
    kernelRun.sl.v188 c arg1 arg2 arg3 arg6 arg8 arg9 arg10 arg11 f1 f2 f3 f6,
    kernelRun.sl.v244 c arg1 arg2 arg3 arg6 arg8 arg9 arg10 arg11 f1 f2 f3 f6,
    kernelRun.sl.v300 c arg1 arg2 arg3 arg6 arg8 arg9 arg10 arg11 f1 f2 f3 f6,
    kernelRun.sl.v356 c arg1 arg2 arg3 arg6 arg8 arg9 arg10 arg11 f1 f2 f3 f6,
    kernelRun.sl.v412 c arg1 arg2 arg3 arg6 arg8 arg9 arg10 arg11 f1 f2 f3 f6,
    kernelRun.sl.v468 c arg1 arg2 arg3 arg6 arg8 arg9 arg10 arg11 f1 f2 f3 f6,
    kernelRun.sl.v524 c arg1 arg2 arg3 arg6 arg8 arg9 arg10 arg11 f1 f2 f3 f6,
    kernelRun.sl.v580 c arg1 arg2 arg3 arg6 arg8 arg9 arg10 arg11 f1 f2 f3 f6,
    kernelRun.sl.v636 c arg1 arg2 arg3 arg6 arg8 arg9 arg10 arg11 f1 f2 f3 f6,
    kernelRun.sl.v692 c arg1 arg2 arg3 arg6 arg8 arg9 arg10 arg11 f1 f2 f3 f6,
    kernelRun.sl.v748 c arg1 arg2 arg3 arg6 arg8 arg9 arg10 arg11 f1 f2 f3 f6,
    kernelRun.sl.v804 c arg1 arg2 arg3 arg6 arg8 arg9 arg10 arg11 f1 f2 f3 f6,
    kernelRun.sl.v860 c arg1 arg2 arg3 arg6 arg8 arg9 arg10 arg11 f1 f2 f3 f6,
    kernelRun.sl.v916 c arg1 arg2 arg3 arg6 arg8 arg9 arg10 arg11 f1 f2 f3 f6]

/-- The rows loaded for batch 0 of the step, slot by slot. -/
def rowV0 : Fin 16 → FVec Ideal S1x1024 .f32 :=
  ![kernelRun.sl.v88 c arg1 arg2 arg3 arg6 arg8 f1 f2 f3 f6,
    kernelRun.sl.v144 c arg1 arg2 arg3 arg6 arg8 arg9 arg10 arg11 f1 f2 f3 f6,
    kernelRun.sl.v200 c arg1 arg2 arg3 arg6 arg8 arg9 arg10 arg11 f1 f2 f3 f6,
    kernelRun.sl.v256 c arg1 arg2 arg3 arg6 arg8 arg9 arg10 arg11 f1 f2 f3 f6,
    kernelRun.sl.v312 c arg1 arg2 arg3 arg6 arg8 arg9 arg10 arg11 f1 f2 f3 f6,
    kernelRun.sl.v368 c arg1 arg2 arg3 arg6 arg8 arg9 arg10 arg11 f1 f2 f3 f6,
    kernelRun.sl.v424 c arg1 arg2 arg3 arg6 arg8 arg9 arg10 arg11 f1 f2 f3 f6,
    kernelRun.sl.v480 c arg1 arg2 arg3 arg6 arg8 arg9 arg10 arg11 f1 f2 f3 f6,
    kernelRun.sl.v536 c arg1 arg2 arg3 arg6 arg8 arg9 arg10 arg11 f1 f2 f3 f6,
    kernelRun.sl.v592 c arg1 arg2 arg3 arg6 arg8 arg9 arg10 arg11 f1 f2 f3 f6,
    kernelRun.sl.v648 c arg1 arg2 arg3 arg6 arg8 arg9 arg10 arg11 f1 f2 f3 f6,
    kernelRun.sl.v704 c arg1 arg2 arg3 arg6 arg8 arg9 arg10 arg11 f1 f2 f3 f6,
    kernelRun.sl.v760 c arg1 arg2 arg3 arg6 arg8 arg9 arg10 arg11 f1 f2 f3 f6,
    kernelRun.sl.v816 c arg1 arg2 arg3 arg6 arg8 arg9 arg10 arg11 f1 f2 f3 f6,
    kernelRun.sl.v872 c arg1 arg2 arg3 arg6 arg8 arg9 arg10 arg11 f1 f2 f3 f6,
    kernelRun.sl.v928 c arg1 arg2 arg3 arg6 arg8 arg9 arg10 arg11 f1 f2 f3 f6]

/-- The rows loaded for batch 1 of the step, slot by slot. -/
def rowV1 : Fin 16 → FVec Ideal S1x1024 .f32 :=
  ![kernelRun.sl.v92 c arg1 arg2 arg3 arg6 arg9 f1 f2 f3 f6,
    kernelRun.sl.v148 c arg1 arg2 arg3 arg6 arg8 arg9 arg10 arg11 f1 f2 f3 f6,
    kernelRun.sl.v204 c arg1 arg2 arg3 arg6 arg8 arg9 arg10 arg11 f1 f2 f3 f6,
    kernelRun.sl.v260 c arg1 arg2 arg3 arg6 arg8 arg9 arg10 arg11 f1 f2 f3 f6,
    kernelRun.sl.v316 c arg1 arg2 arg3 arg6 arg8 arg9 arg10 arg11 f1 f2 f3 f6,
    kernelRun.sl.v372 c arg1 arg2 arg3 arg6 arg8 arg9 arg10 arg11 f1 f2 f3 f6,
    kernelRun.sl.v428 c arg1 arg2 arg3 arg6 arg8 arg9 arg10 arg11 f1 f2 f3 f6,
    kernelRun.sl.v484 c arg1 arg2 arg3 arg6 arg8 arg9 arg10 arg11 f1 f2 f3 f6,
    kernelRun.sl.v540 c arg1 arg2 arg3 arg6 arg8 arg9 arg10 arg11 f1 f2 f3 f6,
    kernelRun.sl.v596 c arg1 arg2 arg3 arg6 arg8 arg9 arg10 arg11 f1 f2 f3 f6,
    kernelRun.sl.v652 c arg1 arg2 arg3 arg6 arg8 arg9 arg10 arg11 f1 f2 f3 f6,
    kernelRun.sl.v708 c arg1 arg2 arg3 arg6 arg8 arg9 arg10 arg11 f1 f2 f3 f6,
    kernelRun.sl.v764 c arg1 arg2 arg3 arg6 arg8 arg9 arg10 arg11 f1 f2 f3 f6,
    kernelRun.sl.v820 c arg1 arg2 arg3 arg6 arg8 arg9 arg10 arg11 f1 f2 f3 f6,
    kernelRun.sl.v876 c arg1 arg2 arg3 arg6 arg8 arg9 arg10 arg11 f1 f2 f3 f6,
    kernelRun.sl.v932 c arg1 arg2 arg3 arg6 arg8 arg9 arg10 arg11 f1 f2 f3 f6]

/-- The rows loaded for batch 2 of the step, slot by slot. -/
def rowV2 : Fin 16 → FVec Ideal S1x1024 .f32 :=
  ![kernelRun.sl.v96 c arg1 arg2 arg3 arg6 arg10 f1 f2 f3 f6,
    kernelRun.sl.v152 c arg1 arg2 arg3 arg6 arg8 arg9 arg10 arg11 f1 f2 f3 f6,
    kernelRun.sl.v208 c arg1 arg2 arg3 arg6 arg8 arg9 arg10 arg11 f1 f2 f3 f6,
    kernelRun.sl.v264 c arg1 arg2 arg3 arg6 arg8 arg9 arg10 arg11 f1 f2 f3 f6,
    kernelRun.sl.v320 c arg1 arg2 arg3 arg6 arg8 arg9 arg10 arg11 f1 f2 f3 f6,
    kernelRun.sl.v376 c arg1 arg2 arg3 arg6 arg8 arg9 arg10 arg11 f1 f2 f3 f6,
    kernelRun.sl.v432 c arg1 arg2 arg3 arg6 arg8 arg9 arg10 arg11 f1 f2 f3 f6,
    kernelRun.sl.v488 c arg1 arg2 arg3 arg6 arg8 arg9 arg10 arg11 f1 f2 f3 f6,
    kernelRun.sl.v544 c arg1 arg2 arg3 arg6 arg8 arg9 arg10 arg11 f1 f2 f3 f6,
    kernelRun.sl.v600 c arg1 arg2 arg3 arg6 arg8 arg9 arg10 arg11 f1 f2 f3 f6,
    kernelRun.sl.v656 c arg1 arg2 arg3 arg6 arg8 arg9 arg10 arg11 f1 f2 f3 f6,
    kernelRun.sl.v712 c arg1 arg2 arg3 arg6 arg8 arg9 arg10 arg11 f1 f2 f3 f6,
    kernelRun.sl.v768 c arg1 arg2 arg3 arg6 arg8 arg9 arg10 arg11 f1 f2 f3 f6,
    kernelRun.sl.v824 c arg1 arg2 arg3 arg6 arg8 arg9 arg10 arg11 f1 f2 f3 f6,
    kernelRun.sl.v880 c arg1 arg2 arg3 arg6 arg8 arg9 arg10 arg11 f1 f2 f3 f6,
    kernelRun.sl.v936 c arg1 arg2 arg3 arg6 arg8 arg9 arg10 arg11 f1 f2 f3 f6]

/-- The rows loaded for batch 3 of the step, slot by slot. -/
def rowV3 : Fin 16 → FVec Ideal S1x1024 .f32 :=
  ![kernelRun.sl.v100 c arg1 arg2 arg3 arg6 arg11 f1 f2 f3 f6,
    kernelRun.sl.v156 c arg1 arg2 arg3 arg6 arg8 arg9 arg10 arg11 f1 f2 f3 f6,
    kernelRun.sl.v212 c arg1 arg2 arg3 arg6 arg8 arg9 arg10 arg11 f1 f2 f3 f6,
    kernelRun.sl.v268 c arg1 arg2 arg3 arg6 arg8 arg9 arg10 arg11 f1 f2 f3 f6,
    kernelRun.sl.v324 c arg1 arg2 arg3 arg6 arg8 arg9 arg10 arg11 f1 f2 f3 f6,
    kernelRun.sl.v380 c arg1 arg2 arg3 arg6 arg8 arg9 arg10 arg11 f1 f2 f3 f6,
    kernelRun.sl.v436 c arg1 arg2 arg3 arg6 arg8 arg9 arg10 arg11 f1 f2 f3 f6,
    kernelRun.sl.v492 c arg1 arg2 arg3 arg6 arg8 arg9 arg10 arg11 f1 f2 f3 f6,
    kernelRun.sl.v548 c arg1 arg2 arg3 arg6 arg8 arg9 arg10 arg11 f1 f2 f3 f6,
    kernelRun.sl.v604 c arg1 arg2 arg3 arg6 arg8 arg9 arg10 arg11 f1 f2 f3 f6,
    kernelRun.sl.v660 c arg1 arg2 arg3 arg6 arg8 arg9 arg10 arg11 f1 f2 f3 f6,
    kernelRun.sl.v716 c arg1 arg2 arg3 arg6 arg8 arg9 arg10 arg11 f1 f2 f3 f6,
    kernelRun.sl.v772 c arg1 arg2 arg3 arg6 arg8 arg9 arg10 arg11 f1 f2 f3 f6,
    kernelRun.sl.v828 c arg1 arg2 arg3 arg6 arg8 arg9 arg10 arg11 f1 f2 f3 f6,
    kernelRun.sl.v884 c arg1 arg2 arg3 arg6 arg8 arg9 arg10 arg11 f1 f2 f3 f6,
    kernelRun.sl.v940 c arg1 arg2 arg3 arg6 arg8 arg9 arg10 arg11 f1 f2 f3 f6]

/-- The six inputs as the body loads them. -/
abbrev in1 : FVec Ideal S4x1024x384 .f32 :=
  arg1.view.readAt (Elt Ideal) (Rect.unit (s := S4x1024x384) ![0, 0, 0] S4x1024x384.size inb_S4x1024x384_S4x1024x384_0_0_0).toLoadRect f1
abbrev in2 : FVec Ideal S384x384 .f32 :=
  arg2.view.readAt (Elt Ideal) (Rect.unit (s := S384x384) ![0, 0] S384x384.size inb_S384x384_S384x384_0_0).toLoadRect f2
abbrev in3 : FVec Ideal S1x384 .f32 :=
  arg3.view.readAt (Elt Ideal) (Rect.unit (s := S1x384) ![0, 0] S1x384.size inb_S1x384_S1x384_0_0).toLoadRect f3
abbrev in4 : FVec Ideal S256x384 .f32 :=
  arg4.view.readAt (Elt Ideal) (Rect.unit (s := S256x384) ![0, 0] S256x384.size inb_S256x384_S256x384_0_0).toLoadRect f4
abbrev in5 : FVec Ideal S1x256 .f32 :=
  arg5.view.readAt (Elt Ideal) (Rect.unit (s := S1x256) ![0, 0] S1x256.size inb_S1x256_S1x256_0_0).toLoadRect f5
abbrev in6 : FVec Ideal S4x1x1024 .f32 :=
  arg6.view.readAt (Elt Ideal) (Rect.unit (s := S4x1x1024) ![0, 0, 0] S4x1x1024.size inb_S4x1x1024_S4x1x1024_0_0_0).toLoadRect f6

theorem rowV0_eq (k : Fin 16) : rowV0 c arg1 arg2 arg3 arg6 arg8 arg9 arg10 arg11 f1 f2 f3 f6 k = rowAt (k0_pay9 (in2 c arg2 f2) (in1 c arg1 f1) (in3 c arg3 f3))
    (mulf (scopeV c arg1 arg2 arg3 arg6 arg8 arg9 arg10 arg11 f1 f2 f3 f6 k) (k0_pay19 (in6 c arg6 f6))) 0 := by
  refine Eq.trans ?_ (row_read arg8.view _ inb_S1024x1024_S1024x1024_0_0 _ (pick_row_ok _ ![0] slices_S4_o0_S1 inpos_S1_p0) 0 _
    (pos_word _ 0 ![0] slices_S4_o0_S1 rfl))
  fin_cases k <;> rfl

theorem rowV1_eq (k : Fin 16) : rowV1 c arg1 arg2 arg3 arg6 arg8 arg9 arg10 arg11 f1 f2 f3 f6 k = rowAt (k0_pay10 (in2 c arg2 f2) (in1 c arg1 f1) (in3 c arg3 f3))
    (mulf (scopeV c arg1 arg2 arg3 arg6 arg8 arg9 arg10 arg11 f1 f2 f3 f6 k) (k0_pay19 (in6 c arg6 f6))) 1 := by
  refine Eq.trans ?_ (row_read arg9.view _ inb_S1024x1024_S1024x1024_0_0 _ (pick_row_ok _ ![1] slices_S4_o1_S1 inpos_S1_p0) 1 _
    (pos_word _ 1 ![1] slices_S4_o1_S1 rfl))
  fin_cases k <;> rfl

theorem rowV2_eq (k : Fin 16) : rowV2 c arg1 arg2 arg3 arg6 arg8 arg9 arg10 arg11 f1 f2 f3 f6 k = rowAt (k0_pay17 (k0_pay2 (in2 c arg2 f2)) (in1 c arg1 f1) (in3 c arg3 f3))
    (mulf (scopeV c arg1 arg2 arg3 arg6 arg8 arg9 arg10 arg11 f1 f2 f3 f6 k) (k0_pay19 (in6 c arg6 f6))) 2 := by
  refine Eq.trans ?_ (row_read arg10.view _ inb_S1024x1024_S1024x1024_0_0 _ (pick_row_ok _ ![2] slices_S4_o2_S1 inpos_S1_p0) 2 _
    (pos_word _ 2 ![2] slices_S4_o2_S1 rfl))
  fin_cases k <;> rfl

theorem rowV3_eq (k : Fin 16) : rowV3 c arg1 arg2 arg3 arg6 arg8 arg9 arg10 arg11 f1 f2 f3 f6 k = rowAt (k0_pay18 (k0_pay2 (in2 c arg2 f2)) (in1 c arg1 f1) (in3 c arg3 f3))
    (mulf (scopeV c arg1 arg2 arg3 arg6 arg8 arg9 arg10 arg11 f1 f2 f3 f6 k) (k0_pay19 (in6 c arg6 f6))) 3 := by
  refine Eq.trans ?_ (row_read arg11.view _ inb_S1024x1024_S1024x1024_0_0 _ (pick_row_ok _ ![3] slices_S4_o3_S1 inpos_S1_p0) 3 _
    (pos_word _ 3 ![3] slices_S4_o3_S1 rfl))
  fin_cases k <;> rfl

/-- The alphas of slot `k`, from the rows the run loaded. -/
def alphaV (k : Fin 16) : FVec Ideal S4x1024 .f32 :=
  alphaOf (rowV0 c arg1 arg2 arg3 arg6 arg8 arg9 arg10 arg11 f1 f2 f3 f6 k) (rowV1 c arg1 arg2 arg3 arg6 arg8 arg9 arg10 arg11 f1 f2 f3 f6 k) (rowV2 c arg1 arg2 arg3 arg6 arg8 arg9 arg10 arg11 f1 f2 f3 f6 k) (rowV3 c arg1 arg2 arg3 arg6 arg8 arg9 arg10 arg11 f1 f2 f3 f6 k)

theorem scopeV_succ (k : Fin 15) : scopeV c arg1 arg2 arg3 arg6 arg8 arg9 arg10 arg11 f1 f2 f3 f6 k.succ = k0_pay35 (scopeV c arg1 arg2 arg3 arg6 arg8 arg9 arg10 arg11 f1 f2 f3 f6 k.castSucc) (alphaV c arg1 arg2 arg3 arg6 arg8 arg9 arg10 arg11 f1 f2 f3 f6 k.castSucc) := by
  unfold alphaV
  fin_cases k <;> rfl

/-- The masks of slot `k`, as the run computes them. -/
def maskV (k : ℕ) : FVec Ideal S4x1024 .f32 :=
  if h : k < 16 then mulf (scopeV c arg1 arg2 arg3 arg6 arg8 arg9 arg10 arg11 f1 f2 f3 f6 ⟨k, h⟩) (alphaV c arg1 arg2 arg3 arg6 arg8 arg9 arg10 arg11 f1 f2 f3 f6 ⟨k, h⟩) else k0_pay20

theorem H12_eq : kernelRun.sl.H12_32 c arg1 arg2 arg3 arg6 arg8 arg9 arg10 arg11 f1 f2 f3 f6
    = pieces ![0, 0] ![1, 0] slices_S4x1024_o0_0_S1x1024 slices_S4x1024_o1_0_S1x1024 (maskV c arg1 arg2 arg3 arg6 arg8 arg9 arg10 arg11 f1 f2 f3 f6) 16 (Nat.le_refl _) := rfl

theorem H13_eq : kernelRun.sl.H13_32 c arg1 arg2 arg3 arg6 arg8 arg9 arg10 arg11 f1 f2 f3 f6
    = pieces ![2, 0] ![3, 0] slices_S4x1024_o2_0_S1x1024 slices_S4x1024_o3_0_S1x1024 (maskV c arg1 arg2 arg3 arg6 arg8 arg9 arg10 arg11 f1 f2 f3 f6) 16 (Nat.le_refl _) := rfl

end Run

end Cert.KernelIdeal.Slots

end
-- ==== Proof.KernelOut.lean ====
/- The output block the body's run leaves. -/
module

public import proofs.«01_k».proof.Proof.KernelValue

@[expose] public section

noncomputable section

namespace Cert.KernelIdeal.Slots

open Cert.KernelIdeal Cert.KernelIdeal.Gen
open Idealize.ShloMosaic Idealize.ShloMosaic.TcCoe
open Idealize.ShloMosaic.ValueIdx hiding ix1 ix2 ix3

theorem lay_apply (v : FVec Ideal S1x1024 .f32) (j : S1x1x1024.Idx) :
    shapeCast S1x1x1024 v shapeCasts_S1x1024_S1x1x1024 j = v (ix2 (0 : Fin 1) (j 2)) := by
  refine shapeCast_apply _ _ _ _ ?_
  have h0 : (j 0).val = 0 := Nat.lt_one_iff.mp (j 0).isLt
  have h1 : (j 1).val = 0 := Nat.lt_one_iff.mp (j 1).isLt
  rw [Shape.rowMajor_val_two, Shape.rowMajor_val_three]
  simp [h0, h1]

theorem cut_apply (x : FVec Ideal S4x1024 .f32) (b : Fin 4) (o : Fin S4x1024.rank → Nat) (h : S4x1024.Slices o S1x1024)
    (h0 : o 0 = b) (h1 : o 1 = 0) (q : Fin 1024) : extractStridedSlice S1x1024 o x h (ix2 (0 : Fin 1) q) = x (ix2 b q) := by
  refine congrArg x ?_
  funext a
  match a with
  | ⟨0, _⟩ => exact Fin.ext (show o 0 + 0 = b.val by omega)
  | ⟨1, _⟩ => exact Fin.ext (show o 1 + q.val = q.val by omega)

/-- Every piece of a mask buffer agrees with the masks. -/
theorem pieces_agree (lo hi : Fin S4x1024.rank → Nat) (hlo : S4x1024.Slices lo S1x1024) (hhi : S4x1024.Slices hi S1x1024)
    (bl bh : Fin 4) (l0 : lo 0 = bl) (l1 : lo 1 = 0) (u0 : hi 0 = bh) (u1 : hi 1 = 0)
    (M : ℕ → FVec Ideal S4x1024 .f32) : (n : ℕ) → (hn : n ≤ 16) → ∀ p ∈ pieces lo hi hlo hhi M n hn, ∀ j,
      p.2 j = (fun y : S2x16x1024.Idx => M (y 1).val (ix2 (if (y 0).val = 0 then bl else bh) (y 2))) (p.1.emb j)
  | 0, _, p, hp, _ => absurd hp List.not_mem_nil
  | n + 1, hn, p, hp, j => by
    rcases List.mem_cons.mp hp with rfl | hp
    · have h0 : (j 0).val = 0 := Nat.lt_one_iff.mp (j 0).isLt
      have h1 : (j 1).val = 0 := Nat.lt_one_iff.mp (j 1).isLt
      refine (lay_apply _ j).trans ((cut_apply _ bh hi hhi u0 u1 _).trans ?_)
      have e0 : ¬ (1 + 1 * (j 0).val = 0) := by omega
      have e1 : n + 1 * (j 1).val = n := by omega
      have e2 : (⟨0 + 1 * (j 2).val, by have := (j 2).isLt; exact (show 0 + 1 * (j 2).val < 1024 from by
          have h : (j 2).val < 1024 := this
          omega)⟩ : Fin 1024) = j 2 := Fin.ext (by simp)
      show M n (ix2 bh (j 2)) = M (n + 1 * (j 1).val) (ix2 (if 1 + 1 * (j 0).val = 0 then bl else bh) ⟨0 + 1 * (j 2).val, _⟩)
      rw [if_neg e0, e1, e2]
    rcases List.mem_cons.mp hp with rfl | hp
    · have h0 : (j 0).val = 0 := Nat.lt_one_iff.mp (j 0).isLt
      have h1 : (j 1).val = 0 := Nat.lt_one_iff.mp (j 1).isLt
      refine (lay_apply _ j).trans ((cut_apply _ bl lo hlo l0 l1 _).trans ?_)
      have e0 : 0 + 1 * (j 0).val = 0 := by omega
      have e1 : n + 1 * (j 1).val = n := by omega
      have e2 : (⟨0 + 1 * (j 2).val, by have := (j 2).isLt; exact (show 0 + 1 * (j 2).val < 1024 from by
          have h : (j 2).val < 1024 := this
          omega)⟩ : Fin 1024) = j 2 := Fin.ext (by simp)
      show M n (ix2 bl (j 2)) = M (n + 1 * (j 1).val) (ix2 (if 0 + 1 * (j 0).val = 0 then bl else bh) ⟨0 + 1 * (j 2).val, _⟩)
      rw [if_pos e0, e1, e2]
    exact pieces_agree lo hi hlo hhi bl bh l0 l1 u0 u1 M n (Nat.le_of_succ_le hn) p hp j

theorem canon_pieces (lo hi : Fin S4x1024.rank → Nat) (hlo : S4x1024.Slices lo S1x1024) (hhi : S4x1024.Slices hi S1x1024)
    (bl bh : Fin 4) (l0 : lo 0 = bl) (l1 : lo 1 = 0) (u0 : hi 0 = bh) (u1 : hi 1 = 0) (M : ℕ → FVec Ideal S4x1024 .f32)
    (y : S2x16x1024.Idx) :
    View.canon (pieces lo hi hlo hhi M 16 (Nat.le_refl _)) y = M (y 1).val (ix2 (if (y 0).val = 0 then bl else bh) (y 2)) :=
  canon_of_agree (fun y : S2x16x1024.Idx => M (y 1).val (ix2 (if (y 0).val = 0 then bl else bh) (y 2))) y
    (pieces lo hi hlo hhi M 16 (Nat.le_refl _))
    (pieces_agree lo hi hlo hhi bl bh l0 l1 u0 u1 M 16 (Nat.le_refl _))
    (View.cover_of_tiled (pieces lo hi hlo hhi M 16 (Nat.le_refl _)) S1x1x1024.size (by rfl) y)

theorem mask_idx (w : Fin 2) (hw : ∀ a, (![w.val, 0, 0] : Fin 3 → Nat) a + S1x16x1024.size a ≤ S2x16x1024.size a) (j : S1x16x1024.Idx) :
    (Rect.unit (s := S2x16x1024) ![w.val, 0, 0] S1x16x1024.size hw).toLoadRect.idx j = ix3 w (j 1) (j 2) := by
  have h0 : (j 0).val = 0 := Nat.lt_one_iff.mp (j 0).isLt
  funext a; apply Fin.ext
  match a with
  | ⟨0, _⟩ => exact (show w.val + 1 * (j 0).val = w.val by omega)
  | ⟨1, _⟩ => exact (show 0 + 1 * (j 1).val = (j 1).val by omega)
  | ⟨2, _⟩ => exact (show 0 + 1 * (j 2).val = (j 2).val by omega)

/-- What a whole mask buffer's row block reads back as. -/
theorem readCov_pieces (v : View sig .tc .vmem S2x16x1024 .f32)
    (lo hi : Fin S4x1024.rank → Nat) (hlo : S4x1024.Slices lo S1x1024) (hhi : S4x1024.Slices hi S1x1024)
    (bl bh : Fin 4) (l0 : lo 0 = bl) (l1 : lo 1 = 0) (u0 : hi 0 = bh) (u1 : hi 1 = 0) (M : ℕ → FVec Ideal S4x1024 .f32)
    (w : Fin 2) (hw : ∀ a, (![w.val, 0, 0] : Fin 3 → Nat) a + S1x16x1024.size a ≤ S2x16x1024.size a) (b : Fin 4)
    (hb : b = if w.val = 0 then bl else bh) :
    v.readCov (Val := Elt Ideal) (pieces lo hi hlo hhi M 16 (Nat.le_refl _)) (Rect.unit (s := S2x16x1024) ![w.val, 0, 0] S1x16x1024.size hw).toLoadRect
      = batchMasks M b := by
  rw [View.readCov_eq_canon']
  funext j
  have e := canon_pieces lo hi hlo hhi bl bh l0 l1 u0 u1 M (ix3 w (j 1) (j 2))
  refine (congrArg (View.canon (pieces lo hi hlo hhi M 16 (Nat.le_refl _))) (mask_idx w hw j)).trans (e.trans ?_)
  rw [hb]; rfl

/-- Four pieces, one a batch, cover the block. -/
theorem four_pieces (p0 p1 p2 p3 : FVec Ideal S1x16x256 .f32) (h0 h1 h2 h3)
    (g : S4x16x256.Idx → EReal) (g0 : ∀ k o, p0 (ix3 (0 : Fin 1) k o) = g (ix3 (0 : Fin 4) k o)) (g1 : ∀ k o, p1 (ix3 (0 : Fin 1) k o) = g (ix3 (1 : Fin 4) k o))
    (g2 : ∀ k o, p2 (ix3 (0 : Fin 1) k o) = g (ix3 (2 : Fin 4) k o)) (g3 : ∀ k o, p3 (ix3 (0 : Fin 1) k o) = g (ix3 (3 : Fin 4) k o)) (y : S4x16x256.Idx) :
    View.canon ([⟨Rect.unit (s := S4x16x256) ![3, 0, 0] S1x16x256.size h3, p3⟩, ⟨Rect.unit (s := S4x16x256) ![2, 0, 0] S1x16x256.size h2, p2⟩,
      ⟨Rect.unit (s := S4x16x256) ![1, 0, 0] S1x16x256.size h1, p1⟩, ⟨Rect.unit (s := S4x16x256) ![0, 0, 0] S1x16x256.size h0, p0⟩]
      : List (View.Piece (Elt Ideal) S4x16x256 .f32)) y = g y := by
  have key : ∀ (b : Fin 4) (h) (q : FVec Ideal S1x16x256 .f32), (∀ k o, q (ix3 (0 : Fin 1) k o) = g (ix3 b k o)) →
      ∀ j : S1x16x256.Idx, q j = g ((Rect.unit (s := S4x16x256) ![b.val, 0, 0] S1x16x256.size h).emb j) := by
    intro b h q hq j
    have hj : (j 0).val = 0 := Nat.lt_one_iff.mp (j 0).isLt
    have hl : j = ix3 (0 : Fin 1) (j 1) (j 2) := by
      funext a; match a with
      | ⟨0, _⟩ => exact Fin.ext hj
      | ⟨1, _⟩ => rfl
      | ⟨2, _⟩ => rfl
    refine (congrArg q hl).trans ((hq _ _).trans (congrArg g ?_))
    funext a; apply Fin.ext; match a with
    | ⟨0, _⟩ => exact (show b.val = b.val + 1 * (j 0).val by omega)
    | ⟨1, _⟩ => exact (show (j 1).val = 0 + 1 * (j 1).val by omega)
    | ⟨2, _⟩ => exact (show (j 2).val = 0 + 1 * (j 2).val by omega)
  refine canon_of_agree g y _ (fun p hp => ?_) (View.cover_of_tiled
    ([⟨Rect.unit (s := S4x16x256) ![3, 0, 0] S1x16x256.size h3, p3⟩, ⟨Rect.unit (s := S4x16x256) ![2, 0, 0] S1x16x256.size h2, p2⟩,
      ⟨Rect.unit (s := S4x16x256) ![1, 0, 0] S1x16x256.size h1, p1⟩, ⟨Rect.unit (s := S4x16x256) ![0, 0, 0] S1x16x256.size h0, p0⟩]
      : List (View.Piece (Elt Ideal) S4x16x256 .f32)) S1x16x256.size (by rfl) y)
  simp only [List.mem_cons, List.not_mem_nil, or_false] at hp
  rcases hp with rfl | rfl | rfl | rfl
  · exact key 3 h3 p3 g3
  · exact key 2 h2 p2 g2
  · exact key 1 h1 p1 g1
  · exact key 0 h0 p0 g0

section Run
variable (c : Dev nD)
  (arg1 : Memref sig .tc .vmem S4x1024x384 .f32) (arg2 : Memref sig .tc .vmem S384x384 .f32) (arg3 : Memref sig .tc .vmem S1x384 .f32)
  (arg4 : Memref sig .tc .vmem S256x384 .f32) (arg5 : Memref sig .tc .vmem S1x256 .f32) (arg6 : Memref sig .tc .vmem S4x1x1024 .f32)
  (arg8 : Memref sig .tc .vmem S1024x1024 .f32) (arg9 : Memref sig .tc .vmem S1024x1024 .f32)
  (arg10 : Memref sig .tc .vmem S1024x1024 .f32) (arg11 : Memref sig .tc .vmem S1024x1024 .f32)
  (arg12 : Memref sig .tc .vmem S2x16x1024 .f32) (arg13 : Memref sig .tc .vmem S2x16x1024 .f32)
  (f1 : Buf (Elt Ideal) (arg1.view.loc (c : Thread nD τ))) (f2 : Buf (Elt Ideal) (arg2.view.loc (c : Thread nD τ)))
  (f3 : Buf (Elt Ideal) (arg3.view.loc (c : Thread nD τ))) (f4 : Buf (Elt Ideal) (arg4.view.loc (c : Thread nD τ)))
  (f5 : Buf (Elt Ideal) (arg5.view.loc (c : Thread nD τ))) (f6 : Buf (Elt Ideal) (arg6.view.loc (c : Thread nD τ)))

theorem alphaV_eq (k : Fin 16) : alphaV c arg1 arg2 arg3 arg6 arg8 arg9 arg10 arg11 f1 f2 f3 f6 k
    = alphaAt (gramOf (in1 c arg1 f1) (in2 c arg2 f2) (in3 c arg3 f3)) (k0_pay19 (in6 c arg6 f6))
        (scopeV c arg1 arg2 arg3 arg6 arg8 arg9 arg10 arg11 f1 f2 f3 f6 k) := by
  unfold alphaV alphaAt
  rw [rowV0_eq, rowV1_eq, rowV2_eq, rowV3_eq]
  rfl

theorem scopeV_eq (n : ℕ) (hn : n < 16) : scopeV c arg1 arg2 arg3 arg6 arg8 arg9 arg10 arg11 f1 f2 f3 f6 ⟨n, hn⟩
    = scope (gramOf (in1 c arg1 f1) (in2 c arg2 f2) (in3 c arg3 f3)) (k0_pay19 (in6 c arg6 f6)) n := by
  induction n with
  | zero => rfl
  | succ n ih =>
    refine (scopeV_succ c arg1 arg2 arg3 arg6 arg8 arg9 arg10 arg11 f1 f2 f3 f6 ⟨n, by omega⟩).trans ?_
    rw [alphaV_eq]
    have e := ih (by omega)
    unfold scope
    rw [← e]
    rfl

theorem maskV_eq (n : ℕ) (hn : n < 16) : maskV c arg1 arg2 arg3 arg6 arg8 arg9 arg10 arg11 f1 f2 f3 f6 n
    = maskAt (gramOf (in1 c arg1 f1) (in2 c arg2 f2) (in3 c arg3 f3)) (k0_pay19 (in6 c arg6 f6)) n := by
  unfold maskV maskAt
  rw [dif_pos hn, alphaV_eq, scopeV_eq]

theorem H7_eq : View.canon (kernelRun.sl.H7_4 c arg1 arg2 arg3 arg4 arg5 arg6 arg8 arg9 arg10 arg11 arg12 arg13 f1 f2 f3 f4 f5 f6)
    = outBlock (in1 c arg1 f1) (in2 c arg2 f2) (in3 c arg3 f3) (in4 c arg4 f4) (in5 c arg5 f5) (in6 c arg6 f6) := by
  have hM := pieces_congr ![0, 0] ![1, 0] slices_S4x1024_o0_0_S1x1024 slices_S4x1024_o1_0_S1x1024 _ _ 16 (Nat.le_refl _)
    (maskV_eq c arg1 arg2 arg3 arg6 arg8 arg9 arg10 arg11 f1 f2 f3 f6)
  have hN := pieces_congr ![2, 0] ![3, 0] slices_S4x1024_o2_0_S1x1024 slices_S4x1024_o3_0_S1x1024 _ _ 16 (Nat.le_refl _)
    (maskV_eq c arg1 arg2 arg3 arg6 arg8 arg9 arg10 arg11 f1 f2 f3 f6)
  have m0 := readCov_pieces arg12.view ![0, 0] ![1, 0] slices_S4x1024_o0_0_S1x1024 slices_S4x1024_o1_0_S1x1024 0 1 rfl rfl rfl rfl
    (maskAt (gramOf (in1 c arg1 f1) (in2 c arg2 f2) (in3 c arg3 f3)) (k0_pay19 (in6 c arg6 f6)))
    0 inb_S2x16x1024_S1x16x1024_0_0_0 0 rfl
  have m1 := readCov_pieces arg12.view ![0, 0] ![1, 0] slices_S4x1024_o0_0_S1x1024 slices_S4x1024_o1_0_S1x1024 0 1 rfl rfl rfl rfl
    (maskAt (gramOf (in1 c arg1 f1) (in2 c arg2 f2) (in3 c arg3 f3)) (k0_pay19 (in6 c arg6 f6)))
    1 inb_S2x16x1024_S1x16x1024_1_0_0 1 rfl
  have m2 := readCov_pieces arg13.view ![2, 0] ![3, 0] slices_S4x1024_o2_0_S1x1024 slices_S4x1024_o3_0_S1x1024 2 3 rfl rfl rfl rfl
    (maskAt (gramOf (in1 c arg1 f1) (in2 c arg2 f2) (in3 c arg3 f3)) (k0_pay19 (in6 c arg6 f6)))
    0 inb_S2x16x1024_S1x16x1024_0_0_0 2 rfl
  have m3 := readCov_pieces arg13.view ![2, 0] ![3, 0] slices_S4x1024_o2_0_S1x1024 slices_S4x1024_o3_0_S1x1024 2 3 rfl rfl rfl rfl
    (maskAt (gramOf (in1 c arg1 f1) (in2 c arg2 f2) (in3 c arg3 f3)) (k0_pay19 (in6 c arg6 f6)))
    1 inb_S2x16x1024_S1x16x1024_1_0_0 3 rfl
  rw [← hM, ← H12_eq] at m0 m1
  rw [← hN, ← H13_eq] at m2 m3
  funext y
  refine four_pieces _ _ _ _ _ _ _ _ (outBlock (in1 c arg1 f1) (in2 c arg2 f2) (in3 c arg3 f3) (in4 c arg4 f4) (in5 c arg5 f5) (in6 c arg6 f6))
    ?_ ?_ ?_ ?_ y
  · intro k o
    show _ = poolOf (featOf (in1 c arg1 f1) 0) _ _ _ _
    rw [show ((ix3 (0 : Fin 4) k o : S4x16x256.Idx) 0) = (0 : Fin 4) from rfl, ← m0]; rfl
  · intro k o
    show _ = poolOf (featOf (in1 c arg1 f1) 1) _ _ _ _
    rw [show ((ix3 (1 : Fin 4) k o : S4x16x256.Idx) 0) = (1 : Fin 4) from rfl, ← m1]; rfl
  · intro k o
    show _ = poolOf (featOf (in1 c arg1 f1) 2) _ _ _ _
    rw [show ((ix3 (2 : Fin 4) k o : S4x16x256.Idx) 0) = (2 : Fin 4) from rfl, ← m2]; rfl
  · intro k o
    show _ = poolOf (featOf (in1 c arg1 f1) 3) _ _ _ _
    rw [show ((ix3 (3 : Fin 4) k o : S4x16x256.Idx) 0) = (3 : Fin 4) from rfl, ← m3]; rfl

end Run

end Cert.KernelIdeal.Slots

end
-- ==== Proof.Kernel.lean ====
/- The kernel's pipeline: its proof data, its body obligation, its run and its frame. -/
module

public import proofs.«01_k».proof.Proof.KernelOut
public import Idealize.ShloMosaic.Lib.Claim

@[expose] public section

noncomputable section

namespace Cert.KernelIdeal.Slots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A load of a whole buffer is the buffer's contents. -/
theorem readAt_all {s : Shape} {e : EltTy} (v : View sig .tc .vmem s e) (off : Fin s.rank → Nat)
    (h0 : ∀ a, off a + s.size a ≤ s.size a) (f : v.ty.Contents (Elt Ideal)) :
    v.readAt (Elt Ideal) (Rect.unit (s := s) off s.size h0).toLoadRect f = v.read (Elt Ideal) f := by
  funext y
  refine congrArg (v.read (Elt Ideal) f) ?_
  funext a; apply Fin.ext
  have h := h0 a
  exact (show off a + 1 * (y a).val = (y a).val by omega)

/-- The body on whole memrefs, the inputs' at `x1`…`x6`: the output's ends at `outBlock` of them. -/
theorem sound_kernel (c : Dev nD) (i : grid0.Coords)
    (arg1 : Memref sig .tc .vmem S4x1024x384 .f32) (harg1 : arg1.IsWhole)
    (arg2 : Memref sig .tc .vmem S384x384 .f32) (harg2 : arg2.IsWhole)
    (arg3 : Memref sig .tc .vmem S1x384 .f32) (harg3 : arg3.IsWhole)
    (arg4 : Memref sig .tc .vmem S256x384 .f32) (harg4 : arg4.IsWhole)
    (arg5 : Memref sig .tc .vmem S1x256 .f32) (harg5 : arg5.IsWhole)
    (arg6 : Memref sig .tc .vmem S4x1x1024 .f32) (harg6 : arg6.IsWhole)
    (arg7 : Memref sig .tc .vmem S4x16x256 .f32) (harg7 : arg7.IsWhole)
    (arg8 : Memref sig .tc .vmem S1024x1024 .f32) (harg8 : arg8.IsWhole)
    (arg9 : Memref sig .tc .vmem S1024x1024 .f32) (harg9 : arg9.IsWhole)
    (arg10 : Memref sig .tc .vmem S1024x1024 .f32) (harg10 : arg10.IsWhole)
    (arg11 : Memref sig .tc .vmem S1024x1024 .f32) (harg11 : arg11.IsWhole)
    (arg12 : Memref sig .tc .vmem S2x16x1024 .f32) (harg12 : arg12.IsWhole)
    (arg13 : Memref sig .tc .vmem S2x16x1024 .f32) (harg13 : arg13.IsWhole)
    (x1 : FVec Ideal S4x1024x384 .f32)
    (x2 : FVec Ideal S384x384 .f32)
    (x3 : FVec Ideal S1x384 .f32)
    (x4 : FVec Ideal S256x384 .f32)
    (x5 : FVec Ideal S1x256 .f32)
    (x6 : FVec Ideal S4x1x1024 .f32)
    (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (outBlock x1 x2 x3 x4 x5 x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ
          (cc0__sb_kernel i arg1 harg1 arg2 harg2 arg3 harg3 arg4 harg4 arg5 harg5 arg6 harg6 arg7 harg7 arg8 harg8 arg9 harg9 arg10 harg10 arg11 harg11 arg12 harg12 arg13 harg13) K := by
  have e (f1 : Buf (Elt Ideal) (arg1.view.loc (c : Thread nD τ))) (f2 : Buf (Elt Ideal) (arg2.view.loc (c : Thread nD τ)))
      (f3 : Buf (Elt Ideal) (arg3.view.loc (c : Thread nD τ))) (f4 : Buf (Elt Ideal) (arg4.view.loc (c : Thread nD τ)))
      (f5 : Buf (Elt Ideal) (arg5.view.loc (c : Thread nD τ))) (f6 : Buf (Elt Ideal) (arg6.view.loc (c : Thread nD τ))) :
      arg7.view.read (Elt Ideal) (arg7.view.writes (Elt Ideal) arg7.view.junk
        (kernelRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6).1)
      = outBlock (arg1.view.read (Elt Ideal) f1) (arg2.view.read (Elt Ideal) f2) (arg3.view.read (Elt Ideal) f3)
          (arg4.view.read (Elt Ideal) f4) (arg5.view.read (Elt Ideal) f5) (arg6.view.read (Elt Ideal) f6) := by
    refine (View.read_writes_junk_eq_canon _ _).trans ((H7_eq c arg1 arg2 arg3 arg4 arg5 arg6 arg8 arg9 arg10 arg11 arg12 arg13 f1 f2 f3 f4 f5 f6).trans ?_)
    unfold in1 in2 in3 in4 in5 in6
    rw [readAt_all, readAt_all, readAt_all, readAt_all, readAt_all, readAt_all]
  have run := fun f1 f2 f3 f4 f5 f6 => (kernelRun c i arg1 harg1 arg2 harg2 arg3 harg3 arg4 harg4 arg5 harg5 arg6 harg6 arg7 harg7 arg8 harg8 arg9 harg9 arg10 harg10 arg11 harg11 arg12 harg12 arg13 harg13 f1 f2 f3 f4 f5 f6).2 K
  unfold owns at run ⊢
  iintro ⟨⟨%f1, %hf1, H1⟩, ⟨%f2, %hf2, H2⟩, ⟨%f3, %hf3, H3⟩, ⟨%f4, %hf4, H4⟩, ⟨%f5, %hf5, H5⟩, ⟨%f6, %hf6, H6⟩, H7, H8, H9, H10, H11, H12, H13, Hk⟩
  subst hf1 hf2 hf3 hf4 hf5 hf6
  iapply (run f1 f2 f3 f4 f5 f6)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, H6, H7, H8, H9, H10, H11, H12, H13⟩
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact e f1 f2 f3 f4 f5 f6
  isplitl [H8]; · iexact H8
  isplitl [H9]; · iexact H9
  isplitl [H10]; · iexact H10
  isplitl [H11]; · iexact H11
  isplitl [H12]; · iexact H12
  iexact H13

/-! ## The proof data -/

/-- The output block at point `t`, from the input blocks. -/
def outAt (c : Dev nD) (t : Fin cfg0.N) : FVec Ideal S4x16x256 .f32 :=
  outBlock (iblk m c 0 t) (iblk m c 1 t) (iblk m c 2 t) (iblk m c 3 t) (iblk m c 4 t) (iblk m c 5 t)

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The scratch buffers and the generator register, one by one. -/
theorem scratch_eq (c : Dev nD) (t) : (dats m 0 c).Φ t = (iprop((((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d))
      ∗ ∃ r, prngReg c r)) : sProp 𝕄) := by
  show Pipeline.ΦA spec0 c = _
  unfold Pipeline.ΦA
  rw [scopedRest0_eq]; simp only [owns_whole]; try rfl

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, scratch_eq]
  iintro ⟨⟨⟨S0, S1, S2, S3, S4, S5⟩, HP⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 HP]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := Ideal))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => And.left h) (run_main_quiescent m ρ)

/-- The kernel runs, leaves its arguments as they were, and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => And.right h) (run_main_quiescent m ρ))

end Cert.KernelIdeal.Slots

end
-- ==== Proof.Rounds.lean ====
/- The slots of one batch in two forms, by products of scopes and by sums of their logarithms, and their equality. -/
module

public import proofs.«01_k».proof.Proof.FirstMax
public import Idealize.ShloMosaic.PureOps.Ideal.Laws
public import Idealize.ShloMosaic.Lib.IdealHost

@[expose] public section

noncomputable section

namespace Cert.Slots

open Idealize.ShloMosaic

/-- The least alpha's logarithm and the least factor, as the programs write them. -/
def logFloor : EReal := Ideal.ofBits .f32 0xC1935D8E#32
def floor : EReal := Ideal.ofBits .f32 0x322BCC77#32

theorem logFloor_real : ∃ r : ℝ, logFloor = (r : EReal) := by
  show ∃ r : ℝ, Ideal.ieee 8 23 0xC1935D8E#32 = (r : EReal)
  unfold Ideal.ieee
  dsimp only
  rw [if_neg (by decide), if_neg (by decide)]
  exact ⟨_, rfl⟩

theorem floor_real : ∃ r : ℝ, 0 < r ∧ floor = (r : EReal) := by
  show ∃ r : ℝ, 0 < r ∧ Ideal.ieee 8 23 0x322BCC77#32 = (r : EReal)
  unfold Ideal.ieee
  dsimp only
  rw [if_neg (by decide), if_neg (by decide)]
  refine ⟨_, ?_, rfl⟩
  rw [if_neg (by decide)]
  positivity

/-- The first position holding the row's maximum. -/
def choose (v : Fin 1024 → EReal) : Fin 1024 := ⟨(firstMax v).toNat, firstMax_toNat_lt v⟩

/-- By products: a slot's alpha from the inner products with the chosen position, its mask and the next scope. -/
def alpha (G : Fin 1024 → Fin 1024 → EReal) (s e : Fin 1024 → EReal) (p : Fin 1024) : EReal :=
  Ideal.exp (max (0 - (2 - 2 * G (choose fun q => e q * s q) p)) logFloor)

def scopes (G : Fin 1024 → Fin 1024 → EReal) (s : Fin 1024 → EReal) : ℕ → Fin 1024 → EReal
  | 0 => fun _ => 1
  | k + 1 => fun p => scopes G s k p * max (1 - alpha G s (scopes G s k) p) floor

def masks (G : Fin 1024 → Fin 1024 → EReal) (s : Fin 1024 → EReal) (k : ℕ) (p : Fin 1024) : EReal :=
  scopes G s k p * alpha G s (scopes G s k) p

/-- By logarithms: a slot's log-alpha from the distances to the chosen position, its mask and the next log-scope. -/
def logAlpha (P : Fin 1024 → Fin 384 → EReal) (s l : Fin 1024 → EReal) (p : Fin 1024) : EReal :=
  max logFloor (Ideal.div (-(∑ d, (P (choose fun q => l q + Ideal.log (s q)) d - P p d) * (P (choose fun q => l q + Ideal.log (s q)) d - P p d)))
    (Ideal.exp 0))

def logScopes (P : Fin 1024 → Fin 384 → EReal) (s : Fin 1024 → EReal) : ℕ → Fin 1024 → EReal
  | 0 => fun _ => 0
  | k + 1 => fun p => logScopes P s k p + Ideal.log (max floor (1 - Ideal.exp (logAlpha P s (logScopes P s k) p)))

def logMasks (P : Fin 1024 → Fin 384 → EReal) (s : Fin 1024 → EReal) (k : ℕ) (p : Fin 1024) : EReal :=
  Ideal.exp (logScopes P s k p + logAlpha P s (logScopes P s k) p)

theorem coe_finsetSum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem coe_maxReal (x y : ℝ) : ((max x y : ℝ) : EReal) = max (x : EReal) (y : EReal) :=
  EReal.coe_strictMono.monotone.map_max

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else _) = _
  rw [if_neg (not_le.mpr h)]

theorem log_top : Ideal.log ⊤ = ⊤ := rfl

/-- The logarithm of a product of a real exponential and a positive number. -/
theorem log_mul (r : ℝ) {s : EReal} (h : 0 < s) : Ideal.log (((Real.exp r : ℝ) : EReal) * s) = (r : EReal) + Ideal.log s := by
  induction s with
  | bot => exact absurd h (by simp)
  | top => rw [EReal.coe_mul_top_of_pos (Real.exp_pos r), log_top, EReal.coe_add_top]
  | coe x =>
    have hx : 0 < x := by exact_mod_cast h
    rw [← EReal.coe_mul, log_coe (mul_pos (Real.exp_pos r) hx), log_coe hx, Real.log_mul (Real.exp_pos r).ne' hx.ne', Real.log_exp, EReal.coe_add]

theorem log_le_log_iff {a b : EReal} (ha : 0 < a) (hb : 0 < b) : Ideal.log a ≤ Ideal.log b ↔ a ≤ b := by
  induction a with
  | bot => exact absurd ha (by simp)
  | top =>
    induction b with
    | bot => exact absurd hb (by simp)
    | top => simp
    | coe y =>
      have hy : 0 < y := by exact_mod_cast hb
      rw [log_coe hy, log_top]; simp
  | coe x =>
    have hx : 0 < x := by exact_mod_cast ha
    induction b with
    | bot => exact absurd hb (by simp)
    | top => rw [log_top]; simp
    | coe y =>
      have hy : 0 < y := by exact_mod_cast hb
      rw [log_coe hx, log_coe hy, EReal.coe_le_coe_iff, EReal.coe_le_coe_iff, Real.log_le_log_iff hx hy]

section Equal

variable {G : Fin 1024 → Fin 1024 → EReal} {P : Fin 1024 → Fin 384 → EReal} {s : Fin 1024 → EReal}

theorem choose_eq (hs : ∀ p, 0 < s p) (e l : Fin 1024 → EReal) (r : Fin 1024 → ℝ)
    (he : ∀ p, e p = ((Real.exp (r p) : ℝ) : EReal)) (hl : ∀ p, l p = (r p : EReal)) :
    (choose fun q => e q * s q) = choose fun q => l q + Ideal.log (s q) := by
  have h : firstMax (fun q => e q * s q) = firstMax fun q => l q + Ideal.log (s q) := by
    refine firstMax_congr fun p q => ?_
    have pos : ∀ p, 0 < e p * s p := fun p => by
      rw [he]; exact EReal.mul_pos (by exact_mod_cast Real.exp_pos (r p)) (hs p)
    rw [← log_le_log_iff (pos p) (pos q), he, he, log_mul _ (hs p), log_mul _ (hs q), hl, hl]
  unfold choose
  simp only [h]

/-- A slot's alpha is the exponential of its log-alpha, a real number. -/
theorem alpha_eq (R : Fin 1024 → Fin 384 → ℝ) (hP : ∀ p d, P p d = (R p d : EReal)) (hR : ∀ p, ∑ d, R p d * R p d = 1)
    (hG : ∀ q p, G q p = ((∑ d, R q d * R p d : ℝ) : EReal)) (hs : ∀ p, 0 < s p) (e l : Fin 1024 → EReal) (r : Fin 1024 → ℝ)
    (he : ∀ p, e p = ((Real.exp (r p) : ℝ) : EReal)) (hl : ∀ p, l p = (r p : EReal)) (p : Fin 1024) :
    ∃ x : ℝ, logAlpha P s l p = (x : EReal) ∧ alpha G s e p = ((Real.exp x : ℝ) : EReal) := by
  obtain ⟨le, hle⟩ := logFloor_real
  unfold logAlpha alpha
  rw [choose_eq hs e l r he hl]
  generalize (choose fun q => l q + Ideal.log (s q)) = c
  have hd : ∑ d, (R c d - R p d) * (R c d - R p d) = 2 - 2 * ∑ d, R c d * R p d := by
    have : ∀ d, (R c d - R p d) * (R c d - R p d) = R c d * R c d + R p d * R p d - 2 * (R c d * R p d) := fun d => by ring
    rw [Finset.sum_congr rfl fun d _ => this d, Finset.sum_sub_distrib, Finset.sum_add_distrib, hR, hR, ← Finset.mul_sum]
    norm_num
  have hsum : ∑ d, (P c d - P p d) * (P c d - P p d) = ((2 - 2 * ∑ d, R c d * R p d : ℝ) : EReal) := by
    rw [← hd, coe_finsetSum]
    refine Finset.sum_congr rfl fun d _ => ?_
    rw [hP, hP, ← EReal.coe_sub, ← EReal.coe_mul]
  have h1 : Ideal.exp 0 = 1 := by
    have := exp_coe 0
    simpa using this
  have hdiv : ∀ y : EReal, Ideal.div y 1 = y := fun y => by
    unfold Ideal.div; rw [if_neg one_ne_zero, inv_one, mul_one]
  have h2 : (2 : EReal) = ((2 : ℝ) : EReal) := rfl
  refine ⟨max le (-(2 - 2 * ∑ d, R c d * R p d)), ?_, ?_⟩
  · rw [hsum, h1, hdiv, hle, ← EReal.coe_neg, coe_maxReal]
  · rw [hG, hle, h2, ← EReal.coe_mul, ← EReal.coe_sub, ← EReal.coe_zero, ← EReal.coe_sub, ← coe_maxReal, exp_coe, max_comm, zero_sub]

theorem scopes_eq (R : Fin 1024 → Fin 384 → ℝ) (hP : ∀ p d, P p d = (R p d : EReal)) (hR : ∀ p, ∑ d, R p d * R p d = 1)
    (hG : ∀ q p, G q p = ((∑ d, R q d * R p d : ℝ) : EReal)) (hs : ∀ p, 0 < s p) (k : ℕ) :
    ∃ r : Fin 1024 → ℝ, (∀ p, scopes G s k p = ((Real.exp (r p) : ℝ) : EReal)) ∧ ∀ p, logScopes P s k p = (r p : EReal) := by
  obtain ⟨fl, hf, hfl⟩ := floor_real
  induction k with
  | zero => exact ⟨fun _ => 0, fun p => by simp [scopes], fun p => by simp [logScopes]⟩
  | succ k ih =>
    obtain ⟨r, he, hl⟩ := ih
    choose x hx ha using fun p => alpha_eq R hP hR hG hs _ _ r he hl p
    have hpos : ∀ p, 0 < max fl (1 - Real.exp (x p)) := fun p => lt_of_lt_of_le hf (le_max_left _ _)
    refine ⟨fun p => r p + Real.log (max fl (1 - Real.exp (x p))), fun p => ?_, fun p => ?_⟩
    · unfold scopes
      rw [he, ha, hfl, ← EReal.coe_one, ← EReal.coe_sub, ← coe_maxReal, max_comm, ← EReal.coe_mul, Real.exp_add, Real.exp_log (hpos p)]
    · unfold logScopes
      rw [hl, hx, exp_coe, hfl, ← EReal.coe_one, ← EReal.coe_sub, ← coe_maxReal, log_coe (hpos p), ← EReal.coe_add]

theorem masks_eq (R : Fin 1024 → Fin 384 → ℝ) (hP : ∀ p d, P p d = (R p d : EReal)) (hR : ∀ p, ∑ d, R p d * R p d = 1)
    (hG : ∀ q p, G q p = ((∑ d, R q d * R p d : ℝ) : EReal)) (hs : ∀ p, 0 < s p) (k : ℕ) (p : Fin 1024) :
    masks G s k p = logMasks P s k p := by
  obtain ⟨r, he, hl⟩ := scopes_eq R hP hR hG hs k
  obtain ⟨x, hx, ha⟩ := alpha_eq R hP hR hG hs _ _ r he hl p
  unfold masks logMasks
  rw [he, ha, hl, hx, ← EReal.coe_mul, ← EReal.coe_add, exp_coe, Real.exp_add]

end Equal

end Cert.Slots

end
-- ==== Proof.KernelRows.lean ====
/- The kernel's scopes and masks, one batch at a time. -/
module

public import proofs.«01_k».proof.Proof.Spec
public import proofs.«01_k».proof.Proof.Rounds
public import Idealize.ShloMosaic.Lib.Pointwise

@[expose] public section

noncomputable section

namespace Cert.KernelIdeal.Slots

open Cert.KernelIdeal Cert.KernelIdeal.Gen Cert.Slots
open Idealize.ShloMosaic Idealize.ShloMosaic.TcCoe

theorem ofBits_two : (Ideal.ofBits .f32 0x40000000#32) = (2 : EReal) := by
  show Ideal.ieee 8 23 0x40000000#32 = ((2 : ℝ) : EReal)
  unfold Ideal.ieee
  dsimp only
  rw [if_neg (by decide), if_neg (by decide), if_neg (by decide)]
  congr 1
  norm_num [BitVec.extractLsb', zpow_neg, Nat.shiftRight_eq_div_pow]

theorem pos_eq (x : FVec Ideal S4x1024 .f32) (b : Fin 4) : pos x b = choose fun p => x (ix2 b p) := by
  unfold pos choose
  rw [Fin.mk.injEq, pick_apply]

variable (G : Fin 4 → FVec Ideal S1024x1024 .f32) (seeds : FVec Ideal S4x1024 .f32)

theorem concat_rows (r : Fin 4 → FVec Ideal S1x1024 .f32) (b : Fin 4) (p : Fin 1024) :
    concatenate S4x1024 0 [⟨S1x1024, r 0⟩, ⟨S1x1024, r 1⟩, ⟨S1x1024, r 2⟩, ⟨S1x1024, r 3⟩]
      concatenates_S1x1024_S1x1024_S1x1024_S1x1024_S4x1024_d0 (ix2 b p) = r b (ix2 0 p) := by
  match b with
  | 0 => pointwise
  | 1 => pointwise
  | 2 => pointwise
  | 3 => pointwise

theorem alphaAt_apply (e : FVec Ideal S4x1024 .f32) (b : Fin 4) (p : Fin 1024) :
    alphaAt G seeds e (ix2 b p) = alpha (fun q p => G b (ix2 q p)) (fun p => seeds (ix2 b p)) (fun p => e (ix2 b p)) p := by
  have h := concat_rows (fun b => rowAt (G b) (mulf e seeds) b) b p
  have hr : rowAt (G b) (mulf e seeds) b (ix2 0 p) = G b (ix2 (choose fun p => e (ix2 b p) * seeds (ix2 b p)) p) :=
    congrArg (fun q => G b (ix2 q p)) (pos_eq (mulf e seeds) b)
  unfold alphaAt alphaOf k0_pay28 alpha
  refine (show _ = Ideal.exp (max (Ideal.ofBits .f32 0x00000000#32 - (Ideal.ofBits .f32 0x40000000#32 - Ideal.ofBits .f32 0x40000000#32 *
    concatenate S4x1024 0 [⟨S1x1024, rowAt (G 0) (mulf e seeds) 0⟩, ⟨S1x1024, rowAt (G 1) (mulf e seeds) 1⟩,
      ⟨S1x1024, rowAt (G 2) (mulf e seeds) 2⟩, ⟨S1x1024, rowAt (G 3) (mulf e seeds) 3⟩]
      concatenates_S1x1024_S1x1024_S1x1024_S1x1024_S4x1024_d0 (ix2 b p))) logFloor) from rfl).trans ?_
  rw [h, hr, ofBits_two, Ideal.ofBits_zero_f32]

theorem scope_apply (k : ℕ) (b : Fin 4) (p : Fin 1024) :
    scope G seeds k (ix2 b p) = scopes (fun q p => G b (ix2 q p)) (fun p => seeds (ix2 b p)) k p := by
  induction k generalizing p with
  | zero => exact Ideal.ofBits_one_f32
  | succ k ih =>
    refine (show _ = scope G seeds k (ix2 b p) * max (Ideal.ofBits .f32 0x3F800000#32 - alphaAt G seeds (scope G seeds k) (ix2 b p)) floor from rfl).trans ?_
    rw [alphaAt_apply, ih, funext ih, Ideal.ofBits_one_f32]
    rfl

theorem maskAt_apply (k : ℕ) (b : Fin 4) (p : Fin 1024) :
    maskAt G seeds k (ix2 b p) = masks (fun q p => G b (ix2 q p)) (fun p => seeds (ix2 b p)) k p := by
  refine (show _ = scope G seeds k (ix2 b p) * alphaAt G seeds (scope G seeds k) (ix2 b p) from rfl).trans ?_
  rw [alphaAt_apply, scope_apply, funext fun p => scope_apply G seeds k b p]
  rfl

end Cert.KernelIdeal.Slots

end
-- ==== Proof.Unit.lean ====
/- A row scaled to length one: at a finite norm that is not tiny its entries are reals whose squares sum to one. -/
module

public import proofs.«01_k».proof.Proof.Rounds

@[expose] public section

noncomputable section

namespace Cert.Slots

open Idealize.ShloMosaic

/-- The floor of the norm, `1e-12`. -/
def tiny : EReal := Ideal.ofBits .f32 0x2B8CBCCC#32

/-- The length of a row. -/
def norm (r : Fin 384 → EReal) : EReal := Ideal.sqrt (∑ d, r d * r d)

/-- The row over its length, no less than `tiny`. -/
def unit (r : Fin 384 → EReal) (d : Fin 384) : EReal := Ideal.div (r d) (max (norm r) tiny)

theorem tiny_pos : 0 < tiny := by
  have : ∃ r : ℝ, 0 < r ∧ tiny = (r : EReal) := by
    show ∃ r : ℝ, 0 < r ∧ Ideal.ieee 8 23 0x2B8CBCCC#32 = (r : EReal)
    unfold Ideal.ieee
    dsimp only
    rw [if_neg (by decide), if_neg (by decide), if_neg (by decide)]
    exact ⟨_, by positivity, rfl⟩
  obtain ⟨r, h0, h⟩ := this
  rw [h]
  exact_mod_cast h0

theorem mul_self_nonneg' (x : EReal) : 0 ≤ x * x := by
  induction x with
  | bot => simp
  | top => simp
  | coe x => exact_mod_cast mul_self_nonneg x

theorem real_of_mul_self_lt_top {x : EReal} (h : x * x < ⊤) : ∃ a : ℝ, x = (a : EReal) := by
  induction x with
  | bot => simp at h
  | top => simp at h
  | coe x => exact ⟨x, rfl⟩

theorem unit_real (r : Fin 384 → EReal) (h1 : tiny ≤ norm r) (h2 : norm r < ⊤) :
    ∃ R : Fin 384 → ℝ, (∀ d, unit r d = (R d : EReal)) ∧ ∑ d, R d * R d = 1 := by
  have hS : ∑ d, r d * r d < ⊤ := by
    refine lt_top_iff_ne_top.2 fun h => ?_
    unfold norm at h2
    rw [h] at h2
    exact absurd h2 (lt_irrefl (⊤ : EReal))
  have hle : ∀ d, r d * r d < ⊤ := fun d =>
    lt_of_le_of_lt (Finset.single_le_sum (f := fun d => r d * r d) (fun d _ => mul_self_nonneg' (r d)) (Finset.mem_univ d)) hS
  choose a ha using fun d => real_of_mul_self_lt_top (hle d)
  have hsum : ∑ d, r d * r d = ((∑ d, a d * a d : ℝ) : EReal) := by
    rw [coe_finsetSum]
    exact Finset.sum_congr rfl fun d _ => by rw [ha, EReal.coe_mul]
  have h0 : 0 ≤ ∑ d, a d * a d := Finset.sum_nonneg fun d _ => mul_self_nonneg (a d)
  have hn : norm r = ((Real.sqrt (∑ d, a d * a d) : ℝ) : EReal) := by
    unfold norm
    rw [hsum]
    exact if_neg (not_lt.2 h0)
  have hp : 0 < Real.sqrt (∑ d, a d * a d) := by
    have := lt_of_lt_of_le tiny_pos h1
    rw [hn] at this
    exact_mod_cast this
  refine ⟨fun d => a d * (Real.sqrt (∑ d, a d * a d))⁻¹, fun d => ?_, ?_⟩
  · unfold unit
    rw [max_eq_left h1, hn, ha]
    unfold Ideal.div
    rw [if_neg (by exact_mod_cast hp.ne'), EReal.coe_mul, EReal.coe_inv]
  · have : ∀ d, a d * (Real.sqrt (∑ d, a d * a d))⁻¹ * (a d * (Real.sqrt (∑ d, a d * a d))⁻¹)
        = a d * a d * (Real.sqrt (∑ d, a d * a d) * Real.sqrt (∑ d, a d * a d))⁻¹ := fun d => by
      rw [mul_inv]; ring
    rw [Finset.sum_congr rfl fun d _ => this d, ← Finset.sum_mul, Real.mul_self_sqrt h0]
    exact mul_inv_cancel₀ (Real.sqrt_pos.1 hp).ne'

end Cert.Slots

end
-- ==== Proof.KernelGram.lean ====
/- The kernel's buffers of inner products, entry by entry. -/
module

public import proofs.«01_k».proof.Proof.Spec
public import proofs.«01_k».proof.Proof.Unit
public import Idealize.ShloMosaic.Lib.Pointwise

@[expose] public section

noncomputable section

namespace Cert.KernelIdeal.Slots

open Cert.KernelIdeal Cert.KernelIdeal.Gen Cert.Slots
open Idealize.ShloMosaic Idealize.ShloMosaic.TcCoe

/-- A feature row times the input weights, plus the bias. -/
def raw (x : FVec Ideal S4x1024x384 .f32) (w : FVec Ideal S384x384 .f32) (v : FVec Ideal S1x384 .f32) (b : Fin 4) (p : Fin 1024)
    (d : Fin 384) : EReal :=
  ∑ k : Fin 384, x (ix3 b p k) * w (ix2 d k) + v (ix2 (0 : Fin 1) d)

variable (x : FVec Ideal S4x1024x384 .f32) (w : FVec Ideal S384x384 .f32) (v : FVec Ideal S1x384 .f32)

theorem pay5_apply (i : Fin 2048) (d : Fin 384) :
    k0_pay5 (F := Ideal) w x v (ix2 i d) = unit (raw x w v ⟨i.val / 1024, by omega⟩ ⟨i.val % 1024, by omega⟩) d := by
  pointwise [k0_pay5, k0_pay4, k0_pay3, k0_pay2]
  rfl

theorem pay13_apply (i : Fin 2048) (d : Fin 384) :
    k0_pay13 (F := Ideal) (k0_pay2 w) x v (ix2 i d) = unit (raw x w v ⟨2 + i.val / 1024, by omega⟩ ⟨i.val % 1024, by omega⟩) d := by
  pointwise [k0_pay13, k0_pay12, k0_pay11, k0_pay2]
  rfl

theorem pay6_apply (i : Fin 2048) (d : Fin 384) :
    k0_pay6 (F := Ideal) w x v (ix2 i d) = k0_pay5 (F := Ideal) w x v (ix2 i d) - k0_pay5 (F := Ideal) w x v (ix2 i d) := by
  pointwise [k0_pay6, k0_pay5]

theorem pay14_apply (i : Fin 2048) (d : Fin 384) :
    k0_pay14 (F := Ideal) (k0_pay2 w) x v (ix2 i d)
      = k0_pay13 (F := Ideal) (k0_pay2 w) x v (ix2 i d) - k0_pay13 (F := Ideal) (k0_pay2 w) x v (ix2 i d) := by
  pointwise [k0_pay14, k0_pay13]

/-- The product over four column groups, the row's residue being zero: the inner product. -/
theorem groups (A L : FVec Ideal S2048x384 .bf16) (i j : Fin 2048) (a c : Fin 384 → ℝ)
    (hL : ∀ i d, L (ix2 i d) = A (ix2 i d) - A (ix2 i d))
    (ha : ∀ d, A (ix2 i d) = (a d : EReal)) (hc : ∀ d, A (ix2 j d) = (c d : EReal)) :
    ∑ d : Fin 1536,
      concatenate S2048x1536 1 [⟨S2048x384, A⟩, ⟨S2048x384, L⟩, ⟨S2048x384, A⟩, ⟨S2048x384, L⟩]
        concatenates_S2048x384_S2048x384_S2048x384_S2048x384_S2048x1536_d1 (ix2 i d)
      * concatenate S2048x1536 1 [⟨S2048x384, A⟩, ⟨S2048x384, L⟩, ⟨S2048x384, L⟩, ⟨S2048x384, A⟩]
        concatenates_S2048x384_S2048x384_S2048x384_S2048x384_S2048x1536_d1 (ix2 j d)
    = ((∑ d, a d * c d : ℝ) : EReal) := by
  have hi : ∀ d, L (ix2 i d) = (0 : EReal) := fun d => by rw [hL, ha, ← EReal.coe_sub, sub_self, EReal.coe_zero]
  have hj : ∀ d, L (ix2 j d) = (0 : EReal) := fun d => by rw [hL, hc, ← EReal.coe_sub, sub_self, EReal.coe_zero]
  pointwise [sumSplitAll]
  simp only [hi, hj, ha, hc, mul_zero, zero_mul, Finset.sum_const_zero, add_zero]
  rw [coe_finsetSum]
  exact Finset.sum_congr rfl fun d _ => (EReal.coe_mul _ _).symm

theorem gramOf_apply (R : Fin 4 → Fin 1024 → Fin 384 → ℝ) (hR : ∀ b p d, unit (raw x w v b p) d = (R b p d : EReal))
    (b : Fin 4) (q p : Fin 1024) :
    gramOf x w v b (ix2 q p) = ((∑ d, R b q d * R b p d : ℝ) : EReal) := by
  have e (i : Fin 2048) (n p : ℕ) (hn : n < 4) (hp : p < 1024) (h : n = i.val / 1024) (h' : p = i.val % 1024) (d : Fin 384) :
      k0_pay5 (F := Ideal) w x v (ix2 i d) = (R ⟨n, hn⟩ ⟨p, hp⟩ d : EReal) := by
    subst h h'; rw [pay5_apply, hR]
  have e' (i : Fin 2048) (n p : ℕ) (hn : n < 4) (hp : p < 1024) (h : n = 2 + i.val / 1024) (h' : p = i.val % 1024) (d : Fin 384) :
      k0_pay13 (F := Ideal) (k0_pay2 w) x v (ix2 i d) = (R ⟨n, hn⟩ ⟨p, hp⟩ d : EReal) := by
    subst h h'; rw [pay13_apply, hR]
  match b with
  | ⟨0, _⟩ =>
    show k0_pay9 (F := Ideal) w x v (ix2 q p) = _
    pointwise [k0_pay9]
    unfold k0_pay7 k0_pay8
    exact groups (k0_pay5 w x v) (k0_pay6 w x v) _ _ _ _ (pay6_apply x w v)
      (e _ 0 q.val (by omega) q.isLt (by simp <;> omega) (by simp <;> omega)) (e _ 0 p.val (by omega) p.isLt (by simp <;> omega) (by simp <;> omega))
  | ⟨1, _⟩ =>
    show k0_pay10 (F := Ideal) w x v (ix2 q p) = _
    pointwise [k0_pay10]
    unfold k0_pay7 k0_pay8
    exact groups (k0_pay5 w x v) (k0_pay6 w x v) _ _ _ _ (pay6_apply x w v)
      (e _ 1 q.val (by omega) q.isLt (by simp <;> omega) (by simp <;> omega)) (e _ 1 p.val (by omega) p.isLt (by simp <;> omega) (by simp <;> omega))
  | ⟨2, _⟩ =>
    show k0_pay17 (F := Ideal) (k0_pay2 w) x v (ix2 q p) = _
    pointwise [k0_pay17]
    unfold k0_pay15 k0_pay16
    exact groups (k0_pay13 (k0_pay2 w) x v) (k0_pay14 (k0_pay2 w) x v) _ _ _ _ (pay14_apply x w v)
      (e' _ 2 q.val (by omega) q.isLt (by simp <;> omega) (by simp <;> omega)) (e' _ 2 p.val (by omega) p.isLt (by simp <;> omega) (by simp <;> omega))
  | ⟨3, _⟩ =>
    show k0_pay18 (F := Ideal) (k0_pay2 w) x v (ix2 q p) = _
    pointwise [k0_pay18]
    unfold k0_pay15 k0_pay16
    exact groups (k0_pay13 (k0_pay2 w) x v) (k0_pay14 (k0_pay2 w) x v) _ _ _ _ (pay14_apply x w v)
      (e' _ 3 q.val (by omega) q.isLt (by simp <;> omega) (by simp <;> omega)) (e' _ 3 p.val (by omega) p.isLt (by simp <;> omega) (by simp <;> omega))

end Cert.KernelIdeal.Slots

end
-- ==== Proof.Seeds.lean ====
/- The seeds: the kernel's host prefix draws the reference's. -/
module

public import proofs.«01_k».proof.Proof.Kernel
public import proofs.«01_k».proof.Proof.Gen.ReferenceIdeal.Step
public import Idealize.ShloMosaic.Lib.StableHlo.RunRead
public import Idealize.ShloMosaic.Lib.Pointwise

@[expose] public section

noncomputable section

namespace Cert.KernelIdeal.Slots

open Cert.KernelIdeal Cert.KernelIdeal.Gen
open Idealize.ShloMosaic Idealize.ShloMosaic.TcCoe

open Cert.ReferenceIdeal.Step

/-! ## The draw

The host line is read in five stretches of four rounds and a key schedule's step each, between a head and a tail. -/

/-- The key words and the interval's ends, as the head leaves them. -/
structure Keys (W : Valuation τ sig (Elt Ideal)) : Prop where
  a : W (Proc.devRef .tc main_call0_v5) = constantI S_ 32 0#32
  b : W (Proc.devRef .tc main_call0_v7) = constantI S_ 32 42#32
  c : W (Proc.devRef .tc main_call0_call0_v1) = constantI S_ 32 466689008#32
  lo : W (Proc.devRef .tc main_call0_v2) = fun _ => (0 : EReal)
  hi : W (Proc.devRef .tc main_call0_v3) = fun _ => (1 : EReal)

def stretch (a n : ℕ) : List (HloOp τ sig (Elt Ideal)) := (hostOps0_1.drop a).take n

variable (W : Valuation τ sig (Elt Ideal))

set_option maxHeartbeats 4000000 in
theorem stretch1 (h : Keys W) (h0 : W (Proc.devRef .tc main_call0_call0_v3) = K_main_v20 (F := Ideal))
    (h1 : W (Proc.devRef .tc main_call0_call0_v5) = K_main_v22 (F := Ideal)) :
    Keys (StableHlo.after (stretch 29 43) W)
    ∧ StableHlo.after (stretch 29 43) W (Proc.devRef .tc main_call0_call0_v35) = K_main_v52 (F := Ideal)
    ∧ StableHlo.after (stretch 29 43) W (Proc.devRef .tc main_call0_call0_v39) = K_main_v56 (F := Ideal) := by
  obtain ⟨ha, hb, hc, hl, hh⟩ := h
  refine ⟨⟨?_, ?_, ?_, ?_, ?_⟩, ?_, ?_⟩ <;> after_reads_simp <;>
    simp only [StableHlo.TRef.ofBuf, StableHlo.TRef.toBuf, cast_cast, cast_eq, ha, hb, hc, hl, hh, h0, h1] <;> rfl

set_option maxHeartbeats 4000000 in
theorem stretch2 (h : Keys W) (h0 : W (Proc.devRef .tc main_call0_call0_v35) = K_main_v52 (F := Ideal))
    (h1 : W (Proc.devRef .tc main_call0_call0_v39) = K_main_v56 (F := Ideal)) :
    Keys (StableHlo.after (stretch 72 43) W)
    ∧ StableHlo.after (stretch 72 43) W (Proc.devRef .tc main_call0_call0_v69) = K_main_v86 (F := Ideal)
    ∧ StableHlo.after (stretch 72 43) W (Proc.devRef .tc main_call0_call0_v73) = K_main_v90 (F := Ideal) := by
  obtain ⟨ha, hb, hc, hl, hh⟩ := h
  refine ⟨⟨?_, ?_, ?_, ?_, ?_⟩, ?_, ?_⟩ <;> after_reads_simp <;>
    simp only [StableHlo.TRef.ofBuf, StableHlo.TRef.toBuf, cast_cast, cast_eq, ha, hb, hc, hl, hh, h0, h1] <;> rfl

set_option maxHeartbeats 4000000 in
theorem stretch3 (h : Keys W) (h0 : W (Proc.devRef .tc main_call0_call0_v69) = K_main_v86 (F := Ideal))
    (h1 : W (Proc.devRef .tc main_call0_call0_v73) = K_main_v90 (F := Ideal)) :
    Keys (StableHlo.after (stretch 115 43) W)
    ∧ StableHlo.after (stretch 115 43) W (Proc.devRef .tc main_call0_call0_v103) = K_main_v120 (F := Ideal)
    ∧ StableHlo.after (stretch 115 43) W (Proc.devRef .tc main_call0_call0_v107) = K_main_v124 (F := Ideal) := by
  obtain ⟨ha, hb, hc, hl, hh⟩ := h
  refine ⟨⟨?_, ?_, ?_, ?_, ?_⟩, ?_, ?_⟩ <;> after_reads_simp <;>
    simp only [StableHlo.TRef.ofBuf, StableHlo.TRef.toBuf, cast_cast, cast_eq, ha, hb, hc, hl, hh, h0, h1] <;> rfl

set_option maxHeartbeats 4000000 in
theorem stretch4 (h : Keys W) (h0 : W (Proc.devRef .tc main_call0_call0_v103) = K_main_v120 (F := Ideal))
    (h1 : W (Proc.devRef .tc main_call0_call0_v107) = K_main_v124 (F := Ideal)) :
    Keys (StableHlo.after (stretch 158 43) W)
    ∧ StableHlo.after (stretch 158 43) W (Proc.devRef .tc main_call0_call0_v137) = K_main_v154 (F := Ideal)
    ∧ StableHlo.after (stretch 158 43) W (Proc.devRef .tc main_call0_call0_v141) = K_main_v158 (F := Ideal) := by
  obtain ⟨ha, hb, hc, hl, hh⟩ := h
  refine ⟨⟨?_, ?_, ?_, ?_, ?_⟩, ?_, ?_⟩ <;> after_reads_simp <;>
    simp only [StableHlo.TRef.ofBuf, StableHlo.TRef.toBuf, cast_cast, cast_eq, ha, hb, hc, hl, hh, h0, h1] <;> rfl

set_option maxHeartbeats 4000000 in
theorem stretch5 (h : Keys W) (h0 : W (Proc.devRef .tc main_call0_call0_v137) = K_main_v154 (F := Ideal))
    (h1 : W (Proc.devRef .tc main_call0_call0_v141) = K_main_v158 (F := Ideal)) :
    Keys (StableHlo.after (stretch 201 43) W)
    ∧ StableHlo.after (stretch 201 43) W (Proc.devRef .tc main_call0_v19_0) = K_main_v188 (F := Ideal)
    ∧ StableHlo.after (stretch 201 43) W (Proc.devRef .tc main_call0_v19_1) = K_main_v192 (F := Ideal) := by
  obtain ⟨ha, hb, hc, hl, hh⟩ := h
  refine ⟨⟨?_, ?_, ?_, ?_, ?_⟩, ?_, ?_⟩ <;> after_reads_simp <;>
    simp only [StableHlo.TRef.ofBuf, StableHlo.TRef.toBuf, cast_cast, cast_eq, ha, hb, hc, hl, hh, h0, h1] <;> rfl

/-- The numbers drawn from two words, as the reference writes them. -/
def unit (p q : IVec S32x1024 32) : FVec Ideal S32x1024 .f32 :=
  maximumf (F := Ideal) (φ := .f32) (subf (F := Ideal) (φ := .f32) (bitcastToFloat (F := Ideal) .f32 (ori (Host.shrui (xori p q)
    (broadcastInDim S32x1024 ![] bcast_S_S32x1024 (constantI S_ 32 9#32))) (broadcastInDim S32x1024 ![] bcast_S_S32x1024 (constantI S_ 32 1065353216#32))))
    (broadcastInDim S32x1024 ![] bcast_S_S32x1024 (constant (F := Ideal) S_ .f32 0x3F800000#32)))
    (broadcastInDim S32x1024 ![] bcast_S_S32x1024 (constant (F := Ideal) S_ .f32 0x00000000#32))

theorem unit_eq : K_main_v202 (F := Ideal) = unit (K_main_v188 (F := Ideal)) (K_main_v192 (F := Ideal)) := by
  unfold K_main_v202 K_main_v200 K_main_v198 K_main_v197 K_main_v195 K_main_v193 unit; rfl

theorem scaled (f : FVec Ideal S32x1024 .f32) (lo hi : FVec Ideal S1x1 .f32) (hl : lo = fun _ => (0 : EReal)) (hh : hi = fun _ => (1 : EReal)) :
    maximumf (F := Ideal) (φ := .f32) (broadcastInDim S32x1024 ![0, 1] bcast_S1x1_S32x1024_0_1 lo)
      (addf (F := Ideal) (φ := .f32) (mulf (F := Ideal) (φ := .f32) f (broadcastInDim S32x1024 ![0, 1] bcast_S1x1_S32x1024_0_1 (subf (F := Ideal) (φ := .f32) hi lo)))
        (broadcastInDim S32x1024 ![0, 1] bcast_S1x1_S32x1024_0_1 lo))
    = maximumf (F := Ideal) (φ := .f32) f (broadcastInDim S32x1024 ![] bcast_S_S32x1024 (constant (F := Ideal) S_ .f32 0x00000000#32)) := by
  subst hl hh
  funext i
  have e : max (0 : EReal) (f i * ((1 : EReal) - 0) + 0) = max (f i) 0 := by
    rw [sub_zero, mul_one, add_zero, max_comm]
  exact e.trans (congrArg (max (f i)) Ideal.ofBits_zero_f32.symm)

set_option maxHeartbeats 4000000 in
theorem tail_of (p q : IVec S32x1024 32) (h : Keys W) (h0 : W (Proc.devRef .tc main_call0_v19_0) = p)
    (h1 : W (Proc.devRef .tc main_call0_v19_1) = q) :
    StableHlo.after (stretch 244 18) W (Proc.devRef .tc main_v7) = unit p q := by
  obtain ⟨ha, hb, hc, hl, hh⟩ := h
  after_reads_simp
  simp only [StableHlo.TRef.ofBuf, StableHlo.TRef.toBuf, cast_cast, cast_eq, h0, h1]
  exact scaled _ _ _ hl hh

theorem tail (h : Keys W) (h0 : W (Proc.devRef .tc main_call0_v19_0) = K_main_v188 (F := Ideal))
    (h1 : W (Proc.devRef .tc main_call0_v19_1) = K_main_v192 (F := Ideal)) :
    StableHlo.after (stretch 244 18) W (Proc.devRef .tc main_v7) = K_main_v202 (F := Ideal) :=
  (tail_of W _ _ h h0 h1).trans unit_eq.symm

/-- The line before the draw. -/
theorem words (V : Valuation τ sig (Elt Ideal)) :
    StableHlo.upto hostOps0 V 9 (Proc.devRef .tc main_v2) = (fun _ => 0#32)
    ∧ StableHlo.upto hostOps0 V 9 (Proc.devRef .tc main_v5) = (fun _ => 42#32) := by
  constructor <;> after_reads_simp <;> funext i
  · exact (show Host.shrui (constantI S_ 32 42#32) (constantI S_ 32 32#32) ix0 = 0#32 by decide)
  · exact (show IntOp.andi 42#32 4294967295#32 = 42#32 by decide)

theorem key0 (a b : IVec S1 32) :
    extractStridedSlice S1 ![0] (concatenate S2 0 [⟨S1, a⟩, ⟨S1, b⟩] concatenates_S1_S1_S2_d0) slices_S2_S1_0 = a := by
  funext j
  obtain ⟨p, rfl⟩ : ∃ p, j = ix1 p := ⟨j 0, by funext a; match a with | ⟨0, _⟩ => rfl⟩
  rw [Subsingleton.elim p 0]; pointwise

theorem key1 (a b : IVec S1 32) :
    extractStridedSlice S1 ![1] (concatenate S2 0 [⟨S1, a⟩, ⟨S1, b⟩] concatenates_S1_S1_S2_d0) slices_S2_S1_1 = b := by
  funext j
  obtain ⟨p, rfl⟩ : ∃ p, j = ix1 p := ⟨j 0, by funext a; match a with | ⟨0, _⟩ => rfl⟩
  rw [Subsingleton.elim p 0]; pointwise

theorem counter_lo (i : S32x1024.Idx) : (trunci 32
      (addi (muli (broadcastInDim S32x1024 ![] bcast_S_S32x1024 (constantI S_ 64 1024#64)) (iotaInDim S32x1024 64 0))
        (muli (broadcastInDim S32x1024 ![] bcast_S_S32x1024 (constantI S_ 64 1#64)) (iotaInDim S32x1024 64 1))) natLt_32_64) i
    = K_main_v17 (F := Ideal) i := by
  have h0 := (i 0).isLt
  have h1 := (i 1).isLt
  show (1024#64 * BitVec.ofNat 64 (i 0).val + 1#64 * BitVec.ofNat 64 (i 1).val).setWidth 32
    = BitVec.ofNat 32 (i 0).val * 1024#32 + BitVec.ofNat 32 (i 1).val
  generalize (i 0).val = x at *
  generalize (i 1).val = y at *
  have h0 : x < 32 := h0
  have h1 : y < 1024 := h1
  apply BitVec.eq_of_toNat_eq
  simp [BitVec.toNat_setWidth, BitVec.toNat_add, BitVec.toNat_mul, BitVec.toNat_ofNat]
  omega

theorem counter_hi (i : S32x1024.Idx) : (trunci 32 (Host.shrui
      (addi (muli (broadcastInDim S32x1024 ![] bcast_S_S32x1024 (constantI S_ 64 1024#64)) (iotaInDim S32x1024 64 0))
        (muli (broadcastInDim S32x1024 ![] bcast_S_S32x1024 (constantI S_ 64 1#64)) (iotaInDim S32x1024 64 1)))
      (broadcastInDim S32x1024 ![] bcast_S_S32x1024 (constantI S_ 64 32#64))) natLt_32_64) i = 0#32 := by
  have h0 := (i 0).isLt
  have h1 := (i 1).isLt
  have e : ∀ x : BitVec 64, (IntOp.shrui .host x 32#64) = x >>> 32#64 := fun x => if_pos (by decide)
  refine (congrArg (BitVec.setWidth 32) (e _)).trans ?_
  show ((1024#64 * BitVec.ofNat 64 (i 0).val + 1#64 * BitVec.ofNat 64 (i 1).val) >>> 32#64).setWidth 32 = 0#32
  generalize (i 0).val = x at *
  generalize (i 1).val = y at *
  have h0 : x < 32 := h0
  have h1 : y < 1024 := h1
  apply BitVec.eq_of_toNat_eq
  simp [BitVec.toNat_setWidth, BitVec.toNat_add, BitVec.toNat_mul, BitVec.toNat_ofNat, Nat.shiftRight_eq_div_pow]
  omega

set_option maxHeartbeats 4000000 in
theorem head (h6 : W (Proc.devRef .tc main_v6) = concatenate S2 0 [⟨S1, fun _ => 0#32⟩, ⟨S1, fun _ => 42#32⟩] concatenates_S1_S1_S2_d0)
    (h0 : W (Proc.devRef .tc main_cst) = fun _ => (0 : EReal)) (h1 : W (Proc.devRef .tc main_cst_2) = fun _ => (1 : EReal)) :
    Keys (StableHlo.after (stretch 0 29) W)
    ∧ StableHlo.after (stretch 0 29) W (Proc.devRef .tc main_call0_call0_v3) = K_main_v20 (F := Ideal)
    ∧ StableHlo.after (stretch 0 29) W (Proc.devRef .tc main_call0_call0_v5) = K_main_v22 (F := Ideal) := by
  refine ⟨⟨?_, ?_, ?_, ?_, ?_⟩, ?_, ?_⟩ <;> after_reads_simp <;>
    simp only [StableHlo.TRef.ofBuf, StableHlo.TRef.toBuf, cast_cast, cast_eq, h6, h0, h1, key0, key1]
  · rfl
  · rfl
  · exact funext fun _ => (show (0#32 ^^^ 42#32) ^^^ 466688986#32 = 466689008#32 by decide)
  · rfl
  · rfl
  · funext i; exact congrArg (· + 0#32) (counter_hi i)
  · funext i; exact congrArg (· + 42#32) (counter_lo i)

theorem seeds_v7 (V : Valuation τ sig (Elt Ideal)) :
    StableHlo.after hostOps0_1 (StableHlo.after hostOps0 V) (Proc.devRef .tc main_v7) = K_main_v202 (F := Ideal) := by
  have c0 : ∀ U : Valuation τ sig (Elt Ideal), StableHlo.after hostOps0_1 U =
      StableHlo.after (stretch 244 18) (StableHlo.after (stretch 201 43) (StableHlo.after (stretch 158 43) (StableHlo.after (stretch 115 43)
        (StableHlo.after (stretch 72 43) (StableHlo.after (stretch 29 43) (StableHlo.after (stretch 0 29) U)))))) := fun U => by
    simp only [← StableHlo.after_append]
    rfl
  have h0 : StableHlo.after hostOps0 V (Proc.devRef .tc main_cst) = fun _ => (0 : EReal) := by
    after_reads_simp; exact funext fun _ => Ideal.ofBits_zero_f32
  have h1 : StableHlo.after hostOps0 V (Proc.devRef .tc main_cst_2) = fun _ => (1 : EReal) := by
    after_reads_simp; exact funext fun _ => Ideal.ofBits_one_f32
  have h6 : StableHlo.after hostOps0 V (Proc.devRef .tc main_v6)
      = concatenate S2 0 [⟨S1, fun _ => 0#32⟩, ⟨S1, fun _ => 42#32⟩] concatenates_S1_S1_S2_d0 := by
    after_reads_simp
    exact congrArg₂ (fun a b : IVec S1 32 => concatenate S2 0 [⟨S1, a⟩, ⟨S1, b⟩] concatenates_S1_S1_S2_d0) (words V).1 (words V).2
  rw [c0]
  obtain ⟨k0, x0, y0⟩ := head _ h6 h0 h1
  obtain ⟨k1, x1, y1⟩ := stretch1 _ k0 x0 y0
  obtain ⟨k2, x2, y2⟩ := stretch2 _ k1 x1 y1
  obtain ⟨k3, x3, y3⟩ := stretch3 _ k2 x2 y2
  obtain ⟨k4, x4, y4⟩ := stretch4 _ k3 x3 y3
  obtain ⟨k5, x5, y5⟩ := stretch5 _ k4 x4 y4
  exact tail _ k5 x5 y5

variable (m : (ℓ : Loc nD τ sig) → Buf (Elt Ideal) ℓ)

/-- The region finds the reference's seeds, one row per batch. -/
theorem V_seeds (c : Dev nD) : V m c main_v9 = shapeCast S32x1x1024 (K_main_v203 (F := Ideal)) shapeCasts_S32x1024_S32x1x1024 := by
  have e : V m c main_v9 = StableHlo.after (hostOps0_2 ++ (hostOps0_3 ++ hostOps0_4))
      (StableHlo.after hostOps0_1 (StableHlo.after hostOps0 (fun b => m (c, b)))) (Proc.devRef .tc main_v9) := by
    simp only [← StableHlo.after_append]
    rfl
  rw [e]
  have h := seeds_v7 (fun b => m (c, b))
  generalize StableHlo.after hostOps0_1 (StableHlo.after hostOps0 (fun b => m (c, b))) = U at h ⊢
  after_reads_simp
  simp only [StableHlo.TRef.ofBuf, StableHlo.TRef.toBuf, cast_cast, cast_eq, h]
  rfl

theorem V_bias_in (c : Dev nD) : V m c main_v10 = shapeCast S1x384 (m (c, Proc.devRef .tc main_arg2)) shapeCasts_S384_S1x384 := by
  have e : V m c main_v10 = StableHlo.after hostOps0_4 (StableHlo.after (hostOps0 ++ (hostOps0_1 ++ (hostOps0_2 ++ hostOps0_3))) (fun b => m (c, b)))
      (Proc.devRef .tc main_v10) := by
    simp only [← StableHlo.after_append]
    rfl
  rw [e]
  after_reads_simp
  rfl

theorem V_bias_out (c : Dev nD) : V m c main_v11 = shapeCast S1x256 (m (c, Proc.devRef .tc main_arg4)) shapeCasts_S256_S1x256 := by
  have e : V m c main_v11 = StableHlo.after hostOps0_4 (StableHlo.after (hostOps0 ++ (hostOps0_1 ++ (hostOps0_2 ++ hostOps0_3))) (fun b => m (c, b)))
      (Proc.devRef .tc main_v11) := by
    simp only [← StableHlo.after_append]
    rfl
  rw [e]
  after_reads_simp
  rfl

end Cert.KernelIdeal.Slots
end
-- ==== Proof.KernelArray.lean ====
/- The kernel's output array, entry by entry, over its argument arrays. -/
module

public import proofs.«01_k».proof.Proof.Kernel
public import proofs.«01_k».proof.Proof.KernelRows
public import proofs.«01_k».proof.Proof.KernelGram
public import proofs.«01_k».proof.Proof.Seeds
public import Idealize.ShloMosaic.Lib.Pipeline.ValueKit.Geometry

@[expose] public section

noncomputable section

namespace Cert.KernelIdeal.Slots

open Cert.KernelIdeal Cert.KernelIdeal.Gen Cert.Slots
open Idealize.ShloMosaic Idealize.ShloMosaic.TcCoe

variable (m : (ℓ : Loc nD τ sig) → Buf (Elt Ideal) ℓ)

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)

/-- The output array from the blocks the points leave. -/
theorem out_array (c : Dev nD) : (dats m 0 c).arrAt 6 cfg0.N = fun y : S32x16x256.Idx =>
    outAt m c (⟨(y 0).val / 4, by have : (y 0).val < 32 := (y 0).isLt; show _ < 8; omega⟩ : Fin cfg0.N)
      (ix3 (⟨(y 0).val % 4, by omega⟩ : Fin 4) (y 1 : Fin 16) (y 2 : Fin 256)) := by
  refine (dats m 0 c).arrAt_eq_of_covers 6 _ (by decide +kernel) fun t hf y => ?_
  blk_simp
  rw [after0_6]
  have h0 : ∀ (t t' : Fin cfg0.N) (y y' : S4x16x256.Idx), t = t' → y = y' → outAt m c t y = outAt m c t' y' :=
    fun t t' y y' ht hy => by subst ht hy; rfl
  have hy : (y 0).val < 4 := (y 0).isLt
  refine h0 _ _ _ _ (Fin.ext ?_) ?_
  · blk_simp [index6]
    show t.val = (t.val * 4 + (y 0).val) / 4
    omega
  · blk_ext [index6]

theorem iblk0 (c : Dev nD) (t : Fin cfg0.N) (b : Fin 4) (p : Fin 1024) (k : Fin 384) (B : Fin 32) (h : B.val = t.val * 4 + b.val) :
    iblk m c 0 t (ix3 b p k) = m ((c : Thread nD τ).loc main_arg0) (ix3 B p k) := by
  blk_simp [iblk]
  rw [V_main_arg0]
  congr 1
  blk_ext [index0]

theorem iblk1 (c : Dev nD) (t : Fin cfg0.N) (d : Fin 384) (k : Fin 384) :
    iblk m c 1 t (ix2 d k) = m ((c : Thread nD τ).loc main_arg1) (ix2 d k) := by
  blk_simp [iblk]
  rw [V_main_arg1]
  congr 1
  blk_ext [index1]

theorem iblk2 (c : Dev nD) (t : Fin cfg0.N) (d : Fin 384) :
    iblk m c 2 t (ix2 (0 : Fin 1) d) = m ((c : Thread nD τ).loc main_arg2) (ix1 d) := by
  blk_simp [iblk]
  rw [V_bias_in]
  refine (congrArg (shapeCast S1x384 (m (c, Proc.devRef .tc main_arg2)) shapeCasts_S384_S1x384)
    (show _ = (ix2 (0 : Fin 1) d : S1x384.Idx) from ?_)).trans ?_
  · blk_ext [index2]
  · pointwise

theorem iblk3 (c : Dev nD) (t : Fin cfg0.N) (o : Fin 256) (d : Fin 384) :
    iblk m c 3 t (ix2 o d) = m ((c : Thread nD τ).loc main_arg3) (ix2 o d) := by
  blk_simp [iblk]
  rw [V_main_arg3]
  congr 1
  blk_ext [index3]

theorem iblk4 (c : Dev nD) (t : Fin cfg0.N) (o : Fin 256) :
    iblk m c 4 t (ix2 (0 : Fin 1) o) = m ((c : Thread nD τ).loc main_arg4) (ix1 o) := by
  blk_simp [iblk]
  rw [V_bias_out]
  refine (congrArg (shapeCast S1x256 (m (c, Proc.devRef .tc main_arg4)) shapeCasts_S256_S1x256)
    (show _ = (ix2 (0 : Fin 1) o : S1x256.Idx) from ?_)).trans ?_
  · blk_ext [index4]
  · pointwise

theorem block5 (c : Dev nD) (W : (b : Ref sig .tc) → Buf (Elt Ideal) ((c : Thread nD τ).loc b)) (K : FVec Ideal S32x1024 .f32)
    (hK : W main_v9 = shapeCast S32x1x1024 K shapeCasts_S32x1024_S32x1x1024) (t : Fin cfg0.N) (b : Fin 4) (p : Fin 1024)
    (B : Fin 32) (h : B.val = t.val * 4 + b.val) :
    ((cfg0.win 5).blk t).view.read (Elt Ideal) (W (Pipeline.arrRef spec0 5)) (ix3 b (0 : Fin 1) p) = K (ix2 B p) := by
  blk_simp
  refine (congrFun hK _).trans ?_
  refine (congrArg (shapeCast S32x1x1024 K shapeCasts_S32x1024_S32x1x1024)
    (show _ = (ix3 B (0 : Fin 1) p : S32x1x1024.Idx) from ?_)).trans ?_
  · blk_ext [index5]
  · pointwise

/-- The seeds' block. -/
theorem iblk5 (c : Dev nD) (t : Fin cfg0.N) (b : Fin 4) (p : Fin 1024) (B : Fin 32) (h : B.val = t.val * 4 + b.val) :
    iblk m c 5 t (ix3 b (0 : Fin 1) p) = Cert.ReferenceIdeal.Step.K_main_v203 (F := Ideal) (ix2 B p) := by
  have e := block5 c (V m c) (Cert.ReferenceIdeal.Step.K_main_v203 (F := Ideal)) (V_seeds m c) t b p B h
  unfold iblk
  exact e

end Cert.KernelIdeal.Slots

end
-- ==== Proof.Pooled.lean ====
/- One slot's output entry from its mask and the features, and the seeds' sign. -/
module

public import proofs.«01_k».proof.Proof.Unit

@[expose] public section

noncomputable section

namespace Cert.Slots

open Idealize.ShloMosaic

/-- The mask-weighted mean of the feature rows, times a column of output weights, plus the bias. -/
def pooled (M : Fin 1024 → EReal) (x : Fin 1024 → Fin 384 → EReal) (w : Fin 384 → EReal) (v : EReal) : EReal :=
  ∑ d, Ideal.div (∑ p, M p * x p d) (max floor (∑ p, M p)) * w d + v

theorem exp_nonneg (x : EReal) : 0 ≤ Ideal.exp x := by
  induction x with
  | bot => exact le_rfl
  | top => exact le_top
  | coe r => rw [exp_coe]; exact_mod_cast (Real.exp_pos r).le

theorem div_nonneg_of_real {x : EReal} (h : 0 ≤ x) {r : ℝ} (hr : 0 < r) : 0 ≤ Ideal.div x (r : EReal) := by
  unfold Ideal.div
  rw [if_neg (by exact_mod_cast hr.ne')]
  exact mul_nonneg h (by rw [← EReal.coe_inv]; exact_mod_cast (inv_pos.2 hr).le)

theorem floor_pos : 0 < floor := by
  obtain ⟨r, h0, h⟩ := floor_real
  rw [h]; exact_mod_cast h0

theorem logMasks_nonneg (P : Fin 1024 → Fin 384 → EReal) (s : Fin 1024 → EReal) (k : ℕ) (p : Fin 1024) : 0 ≤ logMasks P s k p :=
  exp_nonneg _

theorem ofBits_1024 : ∃ r : ℝ, 0 < r ∧ Ideal.ofBits .f32 0x44800000#32 = (r : EReal) := by
  show ∃ r : ℝ, 0 < r ∧ Ideal.ieee 8 23 0x44800000#32 = (r : EReal)
  unfold Ideal.ieee
  dsimp only
  rw [if_neg (by decide), if_neg (by decide), if_neg (by decide)]
  exact ⟨_, by positivity, rfl⟩

end Cert.Slots

end
-- ==== Proof.Reference.lean ====
/- The reference's loop and its result, entry by entry. -/
module

public import proofs.«01_k».proof.Proof.Gen.ReferenceIdeal.Step
public import proofs.«01_k».proof.Proof.Pooled
public import Idealize.ShloMosaic.Lib.Pointwise
public import Idealize.ShloMosaic.Lib.IdealHost

@[expose] public section

noncomputable section

namespace Cert.ReferenceIdeal.Slots

open Cert.ReferenceIdeal Cert.ReferenceIdeal.Step Cert.Slots
open Idealize.ShloMosaic Idealize.ShloMosaic.TcCoe

/-! ## The projection -/

/-- A feature row times the input weights, plus the bias. -/
def raw (x : FVec Ideal S32x1024x384 .f32) (w : FVec Ideal S384x384 .f32) (v : FVec Ideal S384 .f32) (b : Fin 32) (p : Fin 1024)
    (d : Fin 384) : EReal :=
  ∑ k : Fin 384, x (ix3 b p k) * w (ix2 d k) + v (ix1 d)

theorem proj_apply (x : FVec Ideal S32x1024x384 .f32) (w : FVec Ideal S384x384 .f32) (v : FVec Ideal S384 .f32) (b : Fin 32)
    (p : Fin 1024) (d : Fin 384) : (A_main_v11 (F := Ideal) x w v : FVec Ideal S32x1024x384 .f32) (ix3 b p d) = unit (raw x w v b p) d := by
  pointwise [A_main_v11, A_main_v10, A_main_v9, A_main_v8, A_main_v7, A_main_v6, A_main_v5, A_main_v4, A_main_v3, A_main_v2,
    A_main_v1, A_main_v0, K_main_call0_v1, K_main_call0_v0, K_main_cst_0, K_main_cst]
  unfold unit Cert.Slots.norm
  rw [max_comm]
  rfl

/-! ## The seeds -/

theorem log_apply {s : Shape} (x : FVec Ideal s .f32) (i : s.Idx) : Host.log x i = Ideal.log (x i) := rfl

/-- A batch's seeds. -/
def seed (b : Fin 32) (p : Fin 1024) : EReal := K_main_v203 (F := Ideal) (ix2 b p)

theorem logSeed (b : Fin 32) (p : Fin 1024) : (K_main_v204 (F := Ideal) : FVec Ideal S32x1024 .f32) (ix2 b p) = Ideal.log (seed b p) := by
  unfold K_main_v204 seed
  exact log_apply _ _

theorem le_maximumf {s : Shape} (x y : FVec Ideal s .f32) (i : s.Idx) : (x i : EReal) ≤ maximumf x y i := le_max_left _ _

theorem seed_pos (b : Fin 32) (p : Fin 1024) : 0 < seed b p := by
  unfold seed K_main_v203
  refine lt_of_lt_of_le ?_ (le_maximumf _ _ _)
  exact floor_pos

/-! ## Picking a row -/

theorem gather_apply (x : FVec Ideal S32x1024x384 .f32) (idx : IVec S32x1x1 32) (b : Fin 32) (d : Fin 384) :
    Host.gather gather_S32x1024x384_S32x1x1_S32x1x384_2_1_0_0_1_2_11384 x idx (ix3 b (0 : Fin 1) d)
      = x (ix3 b (⟨min (idx (ix3 b (0 : Fin 1) (0 : Fin 1))).toInt.toNat 1023, by omega⟩ : Fin 1024) d) := by
  unfold Host.gather
  congr 1
  funext a
  refine Fin.ext ?_
  show GatherDims.start _ _ idx a + GatherDims.batchCoord _ _ a + GatherDims.offCoord _ _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S32x1024x384_S32x1x1_S32x1x384_2_1_0_0_1_2_11384.operandBatchingDims from List.mem_singleton.mpr rfl)]
    rfl
  · rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S32x1024x384_S32x1x1_S32x1x384_2_1_0_0_1_2_11384.startIndexMap from List.mem_singleton.mpr rfl)]
    refine (congrArg (fun i => min (idx i).toInt.toNat 1023) (show _ = ix3 b (0 : Fin 1) (0 : Fin 1) from ?_))
    funext c; refine Fin.ext ?_
    match c with
    | ⟨0, _⟩ => rfl
    | ⟨1, _⟩ => rfl
    | ⟨2, _⟩ => rfl
  · rw [GatherDims.batchCoord_eq_zero _ _ _ (show (2 : Fin 3) ∉ ([0] : List (Fin 3)) by decide)]
    unfold GatherDims.start
    rw [dif_neg (show (2 : Fin 3) ∉ gather_S32x1024x384_S32x1x1_S32x1x384_2_1_0_0_1_2_11384.startIndexMap from (by decide : (2 : Fin 3) ∉ ([1] : List (Fin 3))))]
    simp only [Nat.zero_add, Nat.add_zero]
    rfl

section Words

variable {x : BitVec 32} (h : x.toNat < 1024)
include h

theorem toInt_small : x.toInt = x.toNat := by
  rw [BitVec.toInt_eq_toNat_of_lt (by omega)]

theorem not_slt_zero : IntOp.cmpi .slt x 0#32 = 0#1 := by
  simp only [IntOp.cmpi, BitVec.slt, toInt_small h, BitVec.toInt_zero]
  rw [decide_eq_false (by omega)]
  rfl

theorem sge_zero : IntOp.cmpi .sge x 0#32 = 1#1 := by
  simp [IntOp.cmpi, BitVec.sle, toInt_small h]

theorem sle_last : IntOp.cmpi .sle x 1023#32 = 1#1 := by
  simp only [IntOp.cmpi, BitVec.sle, toInt_small h, show (1023#32).toInt = 1023 from rfl]
  rw [decide_eq_true (by omega)]
  rfl

end Words

/-- A gather at a batch's first maximum reads the row there. -/
theorem gather_choose (x : FVec Ideal S32x1024x384 .f32) (idx : IVec S32x1x1 32) (b : Fin 32) (d : Fin 384) (v : Fin 1024 → EReal)
    (hi : idx (ix3 b (0 : Fin 1) (0 : Fin 1)) = firstMax v) :
    Host.gather gather_S32x1024x384_S32x1x1_S32x1x384_2_1_0_0_1_2_11384 x idx (ix3 b (0 : Fin 1) d) = x (ix3 b (choose v) d) := by
  have h := firstMax_toNat_lt v
  have e : min (idx (ix3 b (0 : Fin 1) (0 : Fin 1))).toInt.toNat 1023 = (firstMax v).toNat := by
    rw [hi, toInt_small h, Int.toNat_natCast]
    omega
  rw [gather_apply]
  unfold choose
  simp only [e]

/-! ## One trip -/

section Trip

variable (j : ℕ) (s : State Ideal) (b : Fin 32)

/-- A batch's log-scopes and its projected rows, in a state. -/
def ls (p : Fin 1024) : EReal := s.main_v207_5 (ix2 b p)
def pr (p : Fin 1024) (d : Fin 384) : EReal := s.main_v207_1 (ix3 b p d)

theorem chosen : b14 j s (ix1 b) = firstMax fun q => ls s b q + Ideal.log (seed b q) := by
  pointwise [b14, b13, b12, b11, b10, b9, b8, b7, b6, b5, b4, b3, b2]
  unfold firstMax rowMax
  have hbot : Ideal.ofBits .f32 0xFF800000#32 = (⊥ : EReal) := by simp [Ideal.ofBits, Ideal.ieee]
  have hv (q : Fin 1024) : s.main_v207_5 (ix2 b q) + (K_main_v204 (F := Ideal) : FVec Ideal S32x1024 .f32) (ix2 b q)
      = ls s b q + Ideal.log (seed b q) := by rw [logSeed]; rfl
  simp only [hv, hbot]

theorem index_apply : b22 j s (ix3 b (0 : Fin 1) (0 : Fin 1)) = b14 j s (ix1 b) := by
  have h : (b14 j s (ix1 b)).toNat < 1024 := by rw [chosen]; exact firstMax_toNat_lt _
  pointwise [b22, b21, b20, b19, b18, b17, b16, b15]
  rw [not_slt_zero h]
  rfl

theorem row_apply (d : Fin 384) :
    (b37 j s : FVec Ideal S32x1x384 .f32) (ix3 b (0 : Fin 1) d) = pr s b (choose fun q => ls s b q + Ideal.log (seed b q)) d := by
  have h : (b14 j s (ix1 b)).toNat < 1024 := by rw [chosen]; exact firstMax_toNat_lt _
  have h1 (x : Fin 1) : b22 j s (ix3 b (0 : Fin 1) x) = b14 j s (ix1 b) := by
    obtain rfl := Subsingleton.elim x 0; exact index_apply j s b
  pointwise [b37, b36, b35, b34, b33, b32, b31, b30, b29, b28, b27, b26, b25, b24, b23]
  simp only [h1, sge_zero h, sle_last h]
  have hf : Finset.fold IntOp.andi 1#1 (fun _ : Fin 1 => IntOp.andi 1#1 1#1) Finset.univ = 1#1 := by decide
  rw [hf]
  refine (show Scalar.select 1#1 _ _ = _ from rfl).trans ?_
  exact gather_choose _ _ b d _ ((h1 0).trans (chosen j s b))

theorem logAlpha_apply (p : Fin 1024) :
    (b49 j s : FVec Ideal S32x1024 .f32) (ix2 b p) = logAlpha (pr s b) (seed b) (ls s b) p := by
  pointwise [b49, b48, b47, b46, b45, b44, b43, b42, b41, b40, b39, b38, K_main_v205, K_main_cst_65]
  simp only [row_apply]
  rfl

theorem scope_step (p : Fin 1024) :
    ls (step j s) b p = ls s b p + Ideal.log (max floor (1 - Ideal.exp (logAlpha (pr s b) (seed b) (ls s b) p))) := by
  rw [← logAlpha_apply j]
  unfold ls
  rw [step_main_v207_5]
  pointwise [b71, b60, b59, b58, b57, b56, b55, b54, b53, b52]
  rfl

theorem here_apply (hj : j < 16) (k : Fin 16) :
    IntOp.cmpi .eq (BitVec.ofNat 32 k.val) (BitVec.ofNat 32 j) = if k.val = j then 1#1 else 0#1 := by
  have e : (BitVec.ofNat 32 k.val = BitVec.ofNat 32 j) ↔ k.val = j := by
    constructor
    · intro h
      have := congrArg BitVec.toNat h
      simp only [BitVec.toNat_ofNat] at this
      have := k.isLt
      omega
    · intro h; rw [h]
  by_cases h : k.val = j
  · rw [if_pos h]; simp [IntOp.cmpi, e.2 h]
  · rw [if_neg h]
    have h' : (BitVec.ofNat 32 k.val == BitVec.ofNat 32 j) = false := beq_false_of_ne (mt e.1 h)
    simp only [IntOp.cmpi, h']
    rfl

theorem mask_step (hj : j < 16) (k : Fin 16) (p : Fin 1024) :
    ((step j s).main_v207_6 : FVec Ideal S32x16x1024 .f32) (ix3 b k p)
      = if k.val = j then Ideal.exp (ls s b p + logAlpha (pr s b) (seed b) (ls s b) p) else s.main_v207_6 (ix3 b k p) := by
  rw [← logAlpha_apply j, step_main_v207_6]
  pointwise [b67, b66, b65, b64, b63, b62, b61, b51, b50]
  refine (congrArg (fun c => Scalar.select c _ _) (here_apply j hj k)).trans ?_
  split <;> rfl

theorem logScope_step (hj : j < 16) (k : Fin 16) (p : Fin 1024) :
    ((step j s).main_v207_7 : FVec Ideal S32x16x1024 .f32) (ix3 b k p)
      = if k.val = j then ls s b p else s.main_v207_7 (ix3 b k p) := by
  rw [step_main_v207_7]
  pointwise [b70, b69, b68, b64, b63, b62, b61]
  refine (congrArg (fun c => Scalar.select c _ _) (here_apply j hj k)).trans ?_
  split <;> rfl

end Trip

/-! ## All trips -/

section Trips

variable (x : FVec Ideal S32x1024x384 .f32) (w : FVec Ideal S384x384 .f32) (v : FVec Ideal S384 .f32)

/-- A batch's projected rows. -/
def rows (b : Fin 32) (p : Fin 1024) (d : Fin 384) : EReal := unit (raw x w v b p) d

/-- The state after `n` trips. -/
def states : ℕ → State Ideal
  | 0 => init x w v
  | n + 1 => step n (states n)

theorem pr_states (n : ℕ) (b : Fin 32) : pr (states x w v n) b = rows x w v b := by
  induction n with
  | zero => funext p d; exact proj_apply x w v b p d
  | succ n ih => exact ih

theorem ls_states (n : ℕ) (b : Fin 32) : ls (states x w v n) b = logScopes (rows x w v b) (seed b) n := by
  induction n with
  | zero => funext p; exact Ideal.ofBits_zero_f32
  | succ n ih =>
    funext p
    refine (scope_step n (states x w v n) b p).trans ?_
    rw [ih, pr_states]
    rfl

theorem masks_states (n : ℕ) (hn : n ≤ 16) (b : Fin 32) (k : Fin 16) (hk : k.val < n) (p : Fin 1024) :
    ((states x w v n).main_v207_6 : FVec Ideal S32x16x1024 .f32) (ix3 b k p) = logMasks (rows x w v b) (seed b) k.val p := by
  induction n with
  | zero => omega
  | succ n ih =>
    refine (mask_step n (states x w v n) b (by omega) k p).trans ?_
    by_cases h : k.val = n
    · rw [if_pos h, ls_states, pr_states, h]; rfl
    · rw [if_neg h]; exact ih (by omega) (by omega)

end Trips

/-! ## The result -/

theorem result_apply (s : State Ideal) (x : FVec Ideal S32x1024x384 .f32) (w : FVec Ideal S256x384 .f32) (v : FVec Ideal S256 .f32)
    (b : Fin 32) (k : Fin 16) (o : Fin 256) (M : Fin 1024 → EReal)
    (hM : ∀ p, (s.main_v207_6 : FVec Ideal S32x16x1024 .f32) (ix3 b k p) = M p) (h0 : ∀ p, 0 ≤ M p) :
    (R_main_v238 s x w v : FVec Ideal S32x16x256 .f32) (ix3 b k o)
      = pooled M (fun p d => x (ix3 b p d)) (fun d => w (ix2 o d)) (v (ix1 o)) := by
  obtain ⟨r, hr, h1024⟩ := ofBits_1024
  have hmax : ¬ Finset.fold max (Ideal.ofBits .f32 0xFF800000#32) M Finset.univ < 0 :=
    not_lt.2 ((h0 0).trans ((Finset.le_fold_max _).mpr (Or.inr ⟨0, Finset.mem_univ _, le_rfl⟩)))
  have hmean : ¬ Ideal.div (∑ p, M p) (Ideal.ofBits .f32 0x44800000#32) < 0 :=
    not_lt.2 (h1024 ▸ div_nonneg_of_real (Finset.sum_nonneg fun p _ => h0 p) hr)
  have hscope (f : Fin 1024 → EReal) : ¬ Ideal.div (∑ p, Ideal.exp (f p)) (Ideal.ofBits .f32 0x44800000#32) < 0 :=
    not_lt.2 (h1024 ▸ div_nonneg_of_real (Finset.sum_nonneg fun p _ => exp_nonneg _) hr)
  pointwise [R_main_v238]
  simp only [hM]
  rw [decide_eq_false hmax, decide_eq_false hmean, decide_eq_false (hscope _)]
  rfl

theorem reference_apply (x : FVec Ideal S32x1024x384 .f32) (w : FVec Ideal S384x384 .f32) (v : FVec Ideal S384 .f32)
    (w' : FVec Ideal S256x384 .f32) (v' : FVec Ideal S256 .f32) (b : Fin 32) (k : Fin 16) (o : Fin 256) :
    (R_main_v238 (states x w v 16) x w' v' : FVec Ideal S32x16x256 .f32) (ix3 b k o)
      = pooled (logMasks (rows x w v b) (seed b) k.val) (fun p d => x (ix3 b p d)) (fun d => w' (ix2 o d)) (v' (ix1 o)) :=
  result_apply _ x w' v' b k o _ (masks_states x w v 16 le_rfl b k k.isLt) (logMasks_nonneg _ _ _)

end Cert.ReferenceIdeal.Slots

end
-- ==== Proof.Agree.lean ====
/- Under the precondition the kernel's output array and the reference's result are equal. -/
module

public import proofs.«01_k».proof.Proof.KernelArray
public import proofs.«01_k».proof.Proof.Reference
public import proofs.«01_k».proof.Pre_nonzero_projections

@[expose] public section

noncomputable section

/-! ## The precondition, row by row -/

namespace Cert.Pre_nonzero_projections

open Idealize.ShloMosaic Cert.Slots

theorem facts : Facts where
  bcast_S384_S32x1024x384_2 := by decide
  reducesTo_S32x1024x384_S32x1024_d2 := by decide
  h_S_ := by decide
  bcast_S_S32x1024 := by decide
  dot_S32x1024x384_S384x384_S32x1024x384_2_1_01_0_n_n_wf := by decide

theorem rows_of_fn [Facts] (x : FVec Ideal S32x1024x384 .f32) (w : FVec Ideal S384x384 .f32) (v : FVec Ideal S384 .f32)
    (w' : FVec Ideal S256x384 .f32) (v' : FVec Ideal S256 .f32) (b : Fin 32) (p : Fin 1024)
    (h : fn (F := Ideal) x w v w' v' (ix2 b p) = 1#1) :
    tiny ≤ norm (Cert.ReferenceIdeal.Slots.raw x w v b p) ∧ norm (Cert.ReferenceIdeal.Slots.raw x w v b p) < ⊤ := by
  have htop : Ideal.ofBits .f32 0x7F800000#32 = (⊤ : EReal) := by simp [Ideal.ofBits, Ideal.ieee]
  have e : fn (F := Ideal) x w v w' v' (ix2 b p) = IntOp.andi
      (BitVec.ofBool (decide (tiny ≤ norm (Cert.ReferenceIdeal.Slots.raw x w v b p))))
      (BitVec.ofBool (decide (norm (Cert.ReferenceIdeal.Slots.raw x w v b p) < Ideal.ofBits .f32 0x7F800000#32))) := by
    pointwise [fn]
    rfl
  rw [e, htop] at h
  by_cases h1 : tiny ≤ norm (Cert.ReferenceIdeal.Slots.raw x w v b p) <;>
    by_cases h2 : norm (Cert.ReferenceIdeal.Slots.raw x w v b p) < ⊤ <;> simp [h1, h2, IntOp.andi] at h ⊢

end Cert.Pre_nonzero_projections

namespace Cert.KernelIdeal.Slots

open Cert.KernelIdeal Cert.KernelIdeal.Gen Cert.Slots
open Idealize.ShloMosaic Idealize.ShloMosaic.TcCoe

/-! ## The pooling -/

theorem poolOf_apply (fb : FVec Ideal S1024x384 .bf16) (ow : FVec Ideal S256x384 .bf16) (M : FVec Ideal S1x16x1024 .f32)
    (ob : FVec Ideal S1x256 .f32) (k : Fin 16) (o : Fin 256) :
    poolOf fb ow M ob (ix3 (0 : Fin 1) k o)
      = pooled (fun p => M (ix3 (0 : Fin 1) k p)) (fun p d => fb (ix2 p d)) (fun d => ow (ix2 o d)) (ob (ix2 (0 : Fin 1) o)) := by
  pointwise [poolOf]
  unfold pooled
  rw [max_comm]
  rfl

theorem ix_congr {a a' : Fin 4} {p p' : Fin 1024} (d : Fin 384) (ha : a.val = a'.val) (hp : p.val = p'.val) :
    (ix3 a p d : S4x1024x384.Idx) = ix3 a' p' d := by
  rw [Fin.ext ha, Fin.ext hp]

theorem featOf_apply (x : FVec Ideal S4x1024x384 .f32) (b : Fin 4) (p : Fin 1024) (d : Fin 384) :
    featOf x b (ix2 p d) = x (ix3 b p d) := by
  match b with
  | ⟨0, _⟩ => show extractStridedSlice S1024x384 ![0, 0] (k0_pay3 (F := Ideal) x) slices_S2048x384_o0_0_S1024x384 (ix2 p d) = _; pointwise [k0_pay3]; exact congrArg x (ix_congr d (by simp <;> omega) (by simp <;> omega))
  | ⟨1, _⟩ => show extractStridedSlice S1024x384 ![1024, 0] (k0_pay3 (F := Ideal) x) slices_S2048x384_o1024_0_S1024x384 (ix2 p d) = _; pointwise [k0_pay3]; exact congrArg x (ix_congr d (by simp <;> omega) (by simp <;> omega))
  | ⟨2, _⟩ => show extractStridedSlice S1024x384 ![0, 0] (k0_pay11 (F := Ideal) x) slices_S2048x384_o0_0_S1024x384 (ix2 p d) = _; pointwise [k0_pay11]; exact congrArg x (ix_congr d (by simp <;> omega) (by simp <;> omega))
  | ⟨3, _⟩ => show extractStridedSlice S1024x384 ![1024, 0] (k0_pay11 (F := Ideal) x) slices_S2048x384_o1024_0_S1024x384 (ix2 p d) = _; pointwise [k0_pay11]; exact congrArg x (ix_congr d (by simp <;> omega) (by simp <;> omega))

theorem weights_apply (x : FVec Ideal S256x384 .f32) (o : Fin 256) (d : Fin 384) : k0_pay232 (F := Ideal) x (ix2 o d) = x (ix2 o d) := by
  pointwise [k0_pay232]

theorem seeds_apply (x : FVec Ideal S4x1x1024 .f32) (b : Fin 4) (p : Fin 1024) :
    k0_pay19 (F := Ideal) x (ix2 b p) = x (ix3 b (0 : Fin 1) p) := by
  pointwise [k0_pay19]

/-- An entry of the output block, in the words of its batch. -/
theorem outBlock_apply (x : FVec Ideal S4x1024x384 .f32) (w : FVec Ideal S384x384 .f32) (v : FVec Ideal S1x384 .f32)
    (w' : FVec Ideal S256x384 .f32) (v' : FVec Ideal S1x256 .f32) (z : FVec Ideal S4x1x1024 .f32)
    (hn : ∀ b p, tiny ≤ norm (raw x w v b p) ∧ norm (raw x w v b p) < ⊤) (hz : ∀ b p, 0 < z (ix3 b (0 : Fin 1) p))
    (b : Fin 4) (k : Fin 16) (o : Fin 256) :
    outBlock x w v w' v' z (ix3 b k o) = pooled (logMasks (fun p d => Cert.Slots.unit (raw x w v b p) d) (fun p => z (ix3 b (0 : Fin 1) p)) k.val)
      (fun p d => x (ix3 b p d)) (fun d => w' (ix2 o d)) (v' (ix2 (0 : Fin 1) o)) := by
  choose R hR h1 using fun b p => unit_real (raw x w v b p) (hn b p).1 (hn b p).2
  have hm (p : Fin 1024) : batchMasks (maskAt (gramOf x w v) (k0_pay19 z)) b (ix3 (0 : Fin 1) k p)
      = logMasks (fun p d => Cert.Slots.unit (raw x w v b p) d) (fun p => z (ix3 b (0 : Fin 1) p)) k.val p := by
    refine (show _ = maskAt (gramOf x w v) (k0_pay19 z) k.val (ix2 b p) from rfl).trans ?_
    rw [maskAt_apply]
    simp only [seeds_apply]
    exact masks_eq (R b) (hR b) (h1 b) (gramOf_apply x w v R hR b) (hz b) k.val p
  refine (show _ = poolOf (featOf x b) (k0_pay232 w') (batchMasks (maskAt (gramOf x w v) (k0_pay19 z)) b) v' (ix3 (0 : Fin 1) k o) from rfl).trans ?_
  rw [poolOf_apply]
  simp only [hm, featOf_apply, weights_apply]

/-- An output block is the reference's result at the batches its input blocks come from. -/
theorem outBlock_eq (x : FVec Ideal S4x1024x384 .f32) (w : FVec Ideal S384x384 .f32) (v : FVec Ideal S1x384 .f32)
    (w' : FVec Ideal S256x384 .f32) (v' : FVec Ideal S1x256 .f32) (z : FVec Ideal S4x1x1024 .f32)
    (X : FVec Ideal Cert.ReferenceIdeal.S32x1024x384 .f32) (Y : FVec Ideal S384 .f32) (Y' : FVec Ideal S256 .f32) (B : Fin 4 → Fin 32)
    (hx : ∀ b p k, x (ix3 b p k) = X (ix3 (B b) p k)) (hv : ∀ d, v (ix2 (0 : Fin 1) d) = Y (ix1 d))
    (hv' : ∀ o, v' (ix2 (0 : Fin 1) o) = Y' (ix1 o)) (hz : ∀ b p, z (ix3 b (0 : Fin 1) p) = Cert.ReferenceIdeal.Slots.seed (B b) p)
    (hn : ∀ b p, tiny ≤ norm (Cert.ReferenceIdeal.Slots.raw X w Y b p) ∧ norm (Cert.ReferenceIdeal.Slots.raw X w Y b p) < ⊤)
    (b : Fin 4) (k : Fin 16) (o : Fin 256) :
    outBlock x w v w' v' z (ix3 b k o)
      = (Cert.ReferenceIdeal.Step.R_main_v238 (Cert.ReferenceIdeal.Slots.states X w Y 16) X w' Y'
          : FVec Ideal Cert.ReferenceIdeal.S32x16x256 .f32) (ix3 (B b) k o) := by
  have hr (b : Fin 4) (p : Fin 1024) : raw x w v b p = Cert.ReferenceIdeal.Slots.raw X w Y (B b) p := by
    funext d
    unfold raw Cert.ReferenceIdeal.Slots.raw
    simp only [hx, hv]
  rw [Cert.ReferenceIdeal.Slots.reference_apply, outBlock_apply x w v w' v' z (fun b p => by rw [hr]; exact hn _ _)
    (fun b p => by rw [hz]; exact Cert.ReferenceIdeal.Slots.seed_pos _ _)]
  simp only [hr, hx, hv', hz]
  rfl

variable (m : (ℓ : Loc nD τ sig) → Buf (Elt Ideal) ℓ) (c : Dev nD)

/-- The kernel's output array is the reference's result at the kernel's arguments. -/
theorem out_eq_reference
    (hn : ∀ b p, tiny ≤ norm (Cert.ReferenceIdeal.Slots.raw (m ((c : Thread nD τ).loc main_arg0)) (m ((c : Thread nD τ).loc main_arg1)) (m ((c : Thread nD τ).loc main_arg2)) b p)
      ∧ norm (Cert.ReferenceIdeal.Slots.raw (m ((c : Thread nD τ).loc main_arg0)) (m ((c : Thread nD τ).loc main_arg1)) (m ((c : Thread nD τ).loc main_arg2)) b p) < ⊤) :
    (dats m 0 c).arrAt 6 cfg0.N = Cert.ReferenceIdeal.Step.R_main_v238
      (Cert.ReferenceIdeal.Slots.states (m ((c : Thread nD τ).loc main_arg0)) (m ((c : Thread nD τ).loc main_arg1)) (m ((c : Thread nD τ).loc main_arg2)) 16)
      (m ((c : Thread nD τ).loc main_arg0)) (m ((c : Thread nD τ).loc main_arg3)) (m ((c : Thread nD τ).loc main_arg4)) := by
  rw [out_array]
  funext y
  obtain ⟨B, k, o, rfl⟩ : ∃ (B : Fin 32) (k : Fin 16) (o : Fin 256), y = ix3 B k o := ⟨y 0, y 1, y 2, eq_ix3 y⟩
  have hB := B.isLt
  let t : Fin cfg0.N := ⟨B.val / 4, by show _ < 8; omega⟩
  have ht : t.val = B.val / 4 := rfl
  have hw : iblk m c 1 t = m ((c : Thread nD τ).loc main_arg1) := funext fun y => by
    rw [eq_ix2 y]; exact iblk1 m c t (y 0) (y 1)
  have hw' : iblk m c 3 t = m ((c : Thread nD τ).loc main_arg3) := funext fun y => by
    rw [eq_ix2 y]; exact iblk3 m c t (y 0) (y 1)
  let Bf (b : Fin 4) : Fin 32 := ⟨t.val * 4 + b.val, by have := b.isLt; omega⟩
  have e := outBlock_eq (iblk m c 0 t) (m ((c : Thread nD τ).loc main_arg1)) (iblk m c 2 t) (m ((c : Thread nD τ).loc main_arg3))
    (iblk m c 4 t) (iblk m c 5 t) (m ((c : Thread nD τ).loc main_arg0)) (m ((c : Thread nD τ).loc main_arg2))
    (m ((c : Thread nD τ).loc main_arg4)) Bf (fun b p k => iblk0 m c t b p k (Bf b) rfl) (iblk2 m c t) (iblk4 m c t)
    (fun b p => iblk5 m c t b p (Bf b) rfl) hn (⟨B.val % 4, by omega⟩ : Fin 4) k o
  have hb : Bf (⟨B.val % 4, by omega⟩ : Fin 4) = B := Fin.ext (by show B.val / 4 * 4 + B.val % 4 = B.val; omega)
  rw [hb] at e
  refine Eq.trans ?_ e
  show outAt m c t _ = _
  unfold outAt
  rw [hw, hw']
  rfl

end Cert.KernelIdeal.Slots

end
-- ==== Proof.lean ====
/- The proof of the certificate's claims: each program's frame, and the kernel's result against the reference's. -/
module

public import proofs.«01_k».proof.Defs
public import proofs.«01_k».proof.Proof.Gen.KernelIdeal
public import proofs.«01_k».proof.Proof.Gen.ReferenceIdeal
public import proofs.«01_k».proof.Proof.Gen.ReferenceIdeal.StepRun
public import proofs.«01_k».proof.Proof.Agree
public import Idealize.ShloMosaic.Adequacy
public import Idealize.ShloMosaic.Init

@[expose] public section

noncomputable section

namespace Cert.Proof

open Idealize.ShloMosaic Idealize.SL.Sem

theorem frame_kernel : Cert.quiescent_KernelIdeal (hKernelIdeal := Cert.KernelIdeal.Gen.facts) := fun m ρ _ =>
  Cert.KernelIdeal.Slots.frame m ρ

theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two results, under the precondition. -/
theorem algebraic : Cert.algebraic_KernelIdeal_ReferenceIdeal_pre_nonzero_projections (hKernelIdeal := Cert.KernelIdeal.Gen.facts)
    (hReferenceIdeal := Cert.ReferenceIdeal.Gen.facts) (hPre_nonzero_projections := Cert.Pre_nonzero_projections.facts) := by
  intro m ρ m' ρ' hP hA
  haveI := Cert.Pre_nonzero_projections.facts
  have hn (c : Dev Cert.KernelIdeal.nD) (b : Fin 32) (p : Fin 1024) := Cert.Pre_nonzero_projections.rows_of_fn _ _ _ _ _ b p
    (congrFun (hP c) (Idealize.ShloMosaic.ValueIdx.ix2 b p))
  refine ⟨fun c => (Cert.KernelIdeal.Slots.dats m 0 c).arrAt 6 Cert.KernelIdeal.cfg0.N, ?_, ?_⟩
  · exact (θ_run Cert.KernelIdeal.defs _ _).mono (fun r h c => ⟨h.1.out_eq c 6, h.2.1 c⟩)
      (θ_run_and (Cert.KernelIdeal.Slots.run_main m ρ) (Cert.KernelIdeal.Slots.frame m ρ))
  · refine (θ_run Cert.ReferenceIdeal.defs _ _).mono (fun r h c => ⟨(h c).1.trans ?_, (h c).2⟩)
      (Cert.ReferenceIdeal.StepRun.run_iter (F := Ideal) m' ρ'
        (fun c => Cert.ReferenceIdeal.Slots.states (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)))
        (fun _ => rfl) (fun _ _ => rfl))
    obtain ⟨h0, h1, h2, h3, h4⟩ := hA c
    rw [h0, h1, h2, h3, h4]
    exact (Cert.KernelIdeal.Slots.out_eq_reference m c (hn c)).symm

theorem claim : Cert.Claim :=
  ⟨Cert.KernelIdeal.Gen.facts, Cert.ReferenceIdeal.Gen.facts, Cert.Pre_nonzero_projections.facts, frame_kernel,
    fun m ρ _ => frame_kernel m ρ trivial, frame_reference, fun m ρ _ => frame_reference m ρ trivial, algebraic⟩

end Cert.Proof

end
